-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x256x64x64 : Shape := ⟨4, ![32, 256, 64, 64]⟩
abbrev S64 : Shape := ⟨1, ![64]⟩
abbrev S256 : Shape := ⟨1, ![256]⟩
abbrev S_ : Shape := ⟨0, ![]⟩
abbrev S1x1x1x64 : Shape := ⟨4, ![1, 1, 1, 64]⟩

class Facts : Prop where
  bcast_S_S32x256x64x64 : S_.BroadcastsInDim S32x256x64x64 (![] : Fin 0 → Fin S32x256x64x64.rank)
  bcast_S_S64 : S_.BroadcastsInDim S64 (![] : Fin 0 → Fin S64.rank)
  bcast_S64_S1x1x1x64_3 : S64.BroadcastsInDim S1x1x1x64 (![3] : Fin 1 → Fin S1x1x1x64.rank)
  bcast_S1x1x1x64_S32x256x64x64_0_1_2_3 : S1x1x1x64.BroadcastsInDim S32x256x64x64 (![0, 1, 2, 3] : Fin 4 → Fin S32x256x64x64.rank)

variable [Facts]

def fn_part3 {F : FTy → Type} [FloatOps F] (main_v56 : IVec S32x256x64x64 1) (main_v60 : IVec S1x1x1x64 1) : IVec S32x256x64x64 1 :=
  let main_v61 : IVec S32x256x64x64 1 := broadcastInDim S32x256x64x64 ![0, 1, 2, 3] bcast_S1x1x1x64_S32x256x64x64_0_1_2_3 main_v60
  let main_v62 : IVec S32x256x64x64 1 := andi main_v56 main_v61
  main_v62

def fn_part2 {F : FTy → Type} [FloatOps F] (main_arg8 : FVec F S64 .f32) (main_arg9 : FVec F S64 .f32) (main_arg10 : FVec F S64 .f32) (main_v38 : IVec S32x256x64x64 1) (main_v39 : FVec F S64 .f32) (main_cst_6 : FVec F S_ .f32) : IVec S32x256x64x64 1 :=
  let main_v40 : FVec F S64 .f32 := broadcastInDim S64 ![] bcast_S_S64 main_cst_6
  let main_v41 : IVec S64 1 := cmpf .olt main_v39 main_v40
  let main_v42 : IVec S1x1x1x64 1 := broadcastInDim S1x1x1x64 ![3] bcast_S64_S1x1x1x64_3 main_v41
  let main_v43 : IVec S32x256x64x64 1 := broadcastInDim S32x256x64x64 ![0, 1, 2, 3] bcast_S1x1x1x64_S32x256x64x64_0_1_2_3 main_v42
  let main_v44 : IVec S32x256x64x64 1 := andi main_v38 main_v43
  let main_v45 : FVec F S64 .f32 := Host.absf main_arg8
  let main_cst_7 : FVec F S_ .f32 := constant S_ .f32 0x7F800000#32
  let main_v46 : FVec F S64 .f32 := broadcastInDim S64 ![] bcast_S_S64 main_cst_7
  let main_v47 : IVec S64 1 := cmpf .olt main_v45 main_v46
  let main_v48 : IVec S1x1x1x64 1 := broadcastInDim S1x1x1x64 ![3] bcast_S64_S1x1x1x64_3 main_v47
  let main_v49 : IVec S32x256x64x64 1 := broadcastInDim S32x256x64x64 ![0, 1, 2, 3] bcast_S1x1x1x64_S32x256x64x64_0_1_2_3 main_v48
  let main_v50 : IVec S32x256x64x64 1 := andi main_v44 main_v49
  let main_v51 : FVec F S64 .f32 := Host.absf main_arg9
  let main_cst_8 : FVec F S_ .f32 := constant S_ .f32 0x7F800000#32
  let main_v52 : FVec F S64 .f32 := broadcastInDim S64 ![] bcast_S_S64 main_cst_8
  let main_v53 : IVec S64 1 := cmpf .olt main_v51 main_v52
  let main_v54 : IVec S1x1x1x64 1 := broadcastInDim S1x1x1x64 ![3] bcast_S64_S1x1x1x64_3 main_v53
  let main_v55 : IVec S32x256x64x64 1 := broadcastInDim S32x256x64x64 ![0, 1, 2, 3] bcast_S1x1x1x64_S32x256x64x64_0_1_2_3 main_v54
  let main_v56 : IVec S32x256x64x64 1 := andi main_v50 main_v55
  let main_v57 : FVec F S64 .f32 := Host.absf main_arg10
  let main_cst_9 : FVec F S_ .f32 := constant S_ .f32 0x7F800000#32
  let main_v58 : FVec F S64 .f32 := broadcastInDim S64 ![] bcast_S_S64 main_cst_9
  let main_v59 : IVec S64 1 := cmpf .olt main_v57 main_v58
  let main_v60 : IVec S1x1x1x64 1 := broadcastInDim S1x1x1x64 ![3] bcast_S64_S1x1x1x64_3 main_v59
  fn_part3 (F := F) main_v56 main_v60

def fn_part1 {F : FTy → Type} [FloatOps F] (main_arg4 : FVec F S64 .f32) (main_arg5 : FVec F S64 .f32) (main_arg6 : FVec F S64 .f32) (main_arg7 : FVec F S64 .f32) (main_arg8 : FVec F S64 .f32) (main_arg9 : FVec F S64 .f32) (main_arg10 : FVec F S64 .f32) (main_v14 : IVec S32x256x64x64 1) (main_v19 : IVec S32x256x64x64 1) : IVec S32x256x64x64 1 :=
  let main_v20 : IVec S32x256x64x64 1 := andi main_v14 main_v19
  let main_v21 : FVec F S64 .f32 := Host.absf main_arg4
  let main_cst_3 : FVec F S_ .f32 := constant S_ .f32 0x7F800000#32
  let main_v22 : FVec F S64 .f32 := broadcastInDim S64 ![] bcast_S_S64 main_cst_3
  let main_v23 : IVec S64 1 := cmpf .olt main_v21 main_v22
  let main_v24 : IVec S1x1x1x64 1 := broadcastInDim S1x1x1x64 ![3] bcast_S64_S1x1x1x64_3 main_v23
  let main_v25 : IVec S32x256x64x64 1 := broadcastInDim S32x256x64x64 ![0, 1, 2, 3] bcast_S1x1x1x64_S32x256x64x64_0_1_2_3 main_v24
  let main_v26 : IVec S32x256x64x64 1 := andi main_v20 main_v25
  let main_v27 : FVec F S64 .f32 := Host.absf main_arg5
  let main_cst_4 : FVec F S_ .f32 := constant S_ .f32 0x7F800000#32
  let main_v28 : FVec F S64 .f32 := broadcastInDim S64 ![] bcast_S_S64 main_cst_4
  let main_v29 : IVec S64 1 := cmpf .olt main_v27 main_v28
  let main_v30 : IVec S1x1x1x64 1 := broadcastInDim S1x1x1x64 ![3] bcast_S64_S1x1x1x64_3 main_v29
  let main_v31 : IVec S32x256x64x64 1 := broadcastInDim S32x256x64x64 ![0, 1, 2, 3] bcast_S1x1x1x64_S32x256x64x64_0_1_2_3 main_v30
  let main_v32 : IVec S32x256x64x64 1 := andi main_v26 main_v31
  let main_v33 : FVec F S64 .f32 := Host.absf main_arg6
  let main_cst_5 : FVec F S_ .f32 := constant S_ .f32 0x7F800000#32
  let main_v34 : FVec F S64 .f32 := broadcastInDim S64 ![] bcast_S_S64 main_cst_5
  let main_v35 : IVec S64 1 := cmpf .olt main_v33 main_v34
  let main_v36 : IVec S1x1x1x64 1 := broadcastInDim S1x1x1x64 ![3] bcast_S64_S1x1x1x64_3 main_v35
  let main_v37 : IVec S32x256x64x64 1 := broadcastInDim S32x256x64x64 ![0, 1, 2, 3] bcast_S1x1x1x64_S32x256x64x64_0_1_2_3 main_v36
  let main_v38 : IVec S32x256x64x64 1 := andi main_v32 main_v37
  let main_v39 : FVec F S64 .f32 := Host.absf main_arg7
  let main_cst_6 : FVec F S_ .f32 := constant S_ .f32 0x7F800000#32
  fn_part2 (F := F) main_arg8 main_arg9 main_arg10 main_v38 main_v39 main_cst_6

def fn {F : FTy → Type} [FloatOps F] (main_arg0 : FVec F S32x256x64x64 .f32) (main_arg1 : FVec F S64 .f32) (main_arg2 : FVec F S64 .f32) (main_arg3 : FVec F S64 .f32) (main_arg4 : FVec F S64 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S256 .f32) : IVec S32x256x64x64 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : IVec S1x1x1x64 1 := broadcastInDim S1x1x1x64 ![3] bcast_S64_S1x1x1x64_3 main_v5
  let main_v7 : IVec S32x256x64x64 1 := broadcastInDim S32x256x64x64 ![0, 1, 2, 3] bcast_S1x1x1x64_S32x256x64x64_0_1_2_3 main_v6
  let main_v8 : IVec S32x256x64x64 1 := andi main_v2 main_v7
  let main_v9 : FVec F S64 .f32 := Host.absf main_arg2
  let main_cst_1 : FVec F S_ .f32 := constant S_ .f32 0x7F800000#32
  let main_v10 : FVec F S64 .f32 := broadcastInDim S64 ![] bcast_S_S64 main_cst_1
  let main_v11 : IVec S64 1 := cmpf .olt main_v9 main_v10
  let main_v12 : IVec S1x1x1x64 1 := broadcastInDim S1x1x1x64 ![3] bcast_S64_S1x1x1x64_3 main_v11
  let main_v13 : IVec S32x256x64x64 1 := broadcastInDim S32x256x64x64 ![0, 1, 2, 3] bcast_S1x1x1x64_S32x256x64x64_0_1_2_3 main_v12
  let main_v14 : IVec S32x256x64x64 1 := andi main_v8 main_v13
  let main_v15 : FVec F S64 .f32 := Host.absf main_arg3
  let main_cst_2 : FVec F S_ .f32 := constant S_ .f32 0x7F800000#32
  let main_v16 : FVec F S64 .f32 := broadcastInDim S64 ![] bcast_S_S64 main_cst_2
  let main_v17 : IVec S64 1 := cmpf .olt main_v15 main_v16
  let main_v18 : IVec S1x1x1x64 1 := broadcastInDim S1x1x1x64 ![3] bcast_S64_S1x1x1x64_3 main_v17
  let main_v19 : IVec S32x256x64x64 1 := broadcastInDim S32x256x64x64 ![0, 1, 2, 3] bcast_S1x1x1x64_S32x256x64x64_0_1_2_3 main_v18
  fn_part1 (F := F) main_arg4 main_arg5 main_arg6 main_arg7 main_arg8 main_arg9 main_arg10 main_v14 main_v19
-- ==== Kernel.lean ====
abbrev S32x256x64x64 : Shape := ⟨4, ![32, 256, 64, 64]⟩
abbrev S64 : Shape := ⟨1, ![64]⟩
abbrev S256 : Shape := ⟨1, ![256]⟩
abbrev S32x256x32x128 : Shape := ⟨4, ![32, 256, 32, 128]⟩
abbrev S64x1 : Shape := ⟨2, ![64, 1]⟩
abbrev S64x10 : Shape := ⟨2, ![64, 10]⟩
abbrev S4x64 : Shape := ⟨2, ![4, 64]⟩
abbrev S64x4 : Shape := ⟨2, ![64, 4]⟩
abbrev S1x64x16 : Shape := ⟨3, ![1, 64, 16]⟩
abbrev S4x256x32x128 : Shape := ⟨4, ![4, 256, 32, 128]⟩
abbrev S1x64x32x128 : Shape := ⟨4, ![1, 64, 32, 128]⟩
abbrev S64x32x128 : Shape := ⟨3, ![64, 32, 128]⟩
abbrev S64x1x1 : Shape := ⟨3, ![64, 1, 1]⟩
abbrev S64x14 : Shape := ⟨2, ![64, 14]⟩
abbrev S1x64x14 : Shape := ⟨3, ![1, 64, 14]⟩
abbrev S2x256x32x128 : Shape := ⟨4, ![2, 256, 32, 128]⟩
abbrev S64x16 : Shape := ⟨2, ![64, 16]⟩

abbrev nBuf : Space → Nat
  | .hbm => 29
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S256, .f32⟩
  | .hbm, ⟨12, _⟩ => ⟨S32x256x32x128, .f32⟩
  | .hbm, ⟨13, _⟩ => ⟨S64x1, .f32⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S64x1, .f32⟩
  | .hbm, ⟨19, _⟩ => ⟨S64x1, .f32⟩
  | .hbm, ⟨20, _⟩ => ⟨S64x1, .f32⟩
  | .hbm, ⟨21, _⟩ => ⟨S64x1, .f32⟩
  | .hbm, ⟨22, _⟩ => ⟨S64x1, .f32⟩
  | .hbm, ⟨23, _⟩ => ⟨S64x10, .f32⟩
  | .hbm, ⟨24, _⟩ => ⟨S4x64, .f32⟩
  | .hbm, ⟨25, _⟩ => ⟨S64x4, .f32⟩
  | .hbm, ⟨26, _⟩ => ⟨S1x64x16, .f32⟩
  | .hbm, ⟨27, _⟩ => ⟨S32x256x32x128, .f32⟩
  | .hbm, ⟨28, _⟩ => ⟨S32x256x64x64, .f32⟩
  | .local _ .vmem, ⟨0, _⟩ => ⟨S4x256x32x128, .f32⟩
  | .local _ .vmem, ⟨1, _⟩ => ⟨S4x256x32x128, .f32⟩
  | .local _ .vmem, ⟨2, _⟩ => ⟨S1x64x16, .f32⟩
  | .local _ .vmem, ⟨3, _⟩ => ⟨S2x256x32x128, .f32⟩
  | .local _ .vmem, ⟨4, _⟩ => ⟨S2x256x32x128, .f32⟩
  | .local _ .vmem, ⟨5, _⟩ => ⟨S1x64x16, .f32⟩
  | .local _ .vmem, ⟨6, _⟩ => ⟨S64x10, .f32⟩
  | .local _ .vmem, ⟨7, _⟩ => ⟨S64x4, .f32⟩
  | .local _ .vmem, ⟨8, _⟩ => ⟨S2x256x32x128, .f32⟩
  | .local _ .vmem, ⟨9, _⟩ => ⟨S2x256x32x128, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x256x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2x256x32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S32x256x64x64 : Shape := ⟨4, ![32, 256, 64, 64]⟩
abbrev S64 : Shape := ⟨1, ![64]⟩
abbrev S256 : Shape := ⟨1, ![256]⟩
abbrev S32x64x64x64 : Shape := ⟨4, ![32, 64, 64, 64]⟩
abbrev S_ : Shape := ⟨0, ![]⟩
abbrev S1x64x1x1 : Shape := ⟨4, ![1, 64, 1, 1]⟩
abbrev S1x256x1x1 : Shape := ⟨4, ![1, 256, 1, 1]⟩

abbrev nBuf : Space → Nat
  | .hbm => 244
  | .vmem => 0
  | .smem => 0
  | _ => 0

abbrev hbmTy0_0 (i : Nat) : BufTy := match i % 128 with
  | 0 => ⟨S32x256x64x64, .f32⟩
  | 1 => ⟨S64, .f32⟩
  | 2 => ⟨S64, .f32⟩
  | 3 => ⟨S64, .f32⟩
  | 4 => ⟨S64, .f32⟩
  | 5 => ⟨S64, .f32⟩
  | 6 => ⟨S64, .f32⟩
  | 7 => ⟨S64, .f32⟩
  | 8 => ⟨S64, .f32⟩
  | 9 => ⟨S64, .f32⟩
  | 10 => ⟨S64, .f32⟩
  | 11 => ⟨S256, .f32⟩
  | 12 => ⟨S32x64x64x64, .f32⟩
  | 13 => ⟨S32x64x64x64, .f32⟩
  | 14 => ⟨S32x64x64x64, .f32⟩
  | 15 => ⟨S32x64x64x64, .f32⟩
  | 16 => ⟨S_, .f32⟩
  | 17 => ⟨S64, .f32⟩
  | 18 => ⟨S1x64x1x1, .f32⟩
  | 19 => ⟨S_, .f32⟩
  | 20 => ⟨S1x64x1x1, .f32⟩
  | 21 => ⟨S1x64x1x1, .f32⟩
  | 22 => ⟨S_, .f32⟩
  | 23 => ⟨S64, .f32⟩
  | 24 => ⟨S1x64x1x1, .f32⟩
  | 25 => ⟨S_, .f32⟩
  | 26 => ⟨S1x64x1x1, .f32⟩
  | 27 => ⟨S1x64x1x1, .f32⟩
  | 28 => ⟨S_, .f32⟩
  | 29 => ⟨S64, .f32⟩
  | 30 => ⟨S1x64x1x1, .f32⟩
  | 31 => ⟨S_, .f32⟩
  | 32 => ⟨S1x64x1x1, .f32⟩
  | 33 => ⟨S1x64x1x1, .f32⟩
  | 34 => ⟨S_, .f32⟩
  | 35 => ⟨S64, .f32⟩
  | 36 => ⟨S1x64x1x1, .f32⟩
  | 37 => ⟨S_, .f32⟩
  | 38 => ⟨S1x64x1x1, .f32⟩
  | 39 => ⟨S1x64x1x1, .f32⟩
  | 40 => ⟨S32x64x64x64, .f32⟩
  | 41 => ⟨S32x64x64x64, .f32⟩
  | 42 => ⟨S32x64x64x64, .f32⟩
  | 43 => ⟨S32x64x64x64, .f32⟩
  | 44 => ⟨S32x64x64x64, .f32⟩
  | 45 => ⟨S32x64x64x64, .f32⟩
  | 46 => ⟨S32x64x64x64, .f32⟩
  | 47 => ⟨S32x64x64x64, .f32⟩
  | 48 => ⟨S32x64x64x64, .f32⟩
  | 49 => ⟨S_, .f32⟩
  | 50 => ⟨S64, .f32⟩
  | 51 => ⟨S1x64x1x1, .f32⟩
  | 52 => ⟨S_, .f32⟩
  | 53 => ⟨S1x64x1x1, .f32⟩
  | 54 => ⟨S1x64x1x1, .f32⟩
  | 55 => ⟨S_, .f32⟩
  | 56 => ⟨S1x64x1x1, .f32⟩
  | 57 => ⟨S1x64x1x1, .f32⟩
  | 58 => ⟨S32x64x64x64, .f32⟩
  | 59 => ⟨S_, .f32⟩
  | 60 => ⟨S64, .f32⟩
  | 61 => ⟨S1x64x1x1, .f32⟩
  | 62 => ⟨S_, .f32⟩
  | 63 => ⟨S1x64x1x1, .f32⟩
  | 64 => ⟨S1x64x1x1, .f32⟩
  | 65 => ⟨S_, .f32⟩
  | 66 => ⟨S1x64x1x1, .f32⟩
  | 67 => ⟨S1x64x1x1, .f32⟩
  | 68 => ⟨S32x64x64x64, .f32⟩
  | 69 => ⟨S_, .f32⟩
  | 70 => ⟨S64, .f32⟩
  | 71 => ⟨S1x64x1x1, .f32⟩
  | 72 => ⟨S_, .f32⟩
  | 73 => ⟨S1x64x1x1, .f32⟩
  | 74 => ⟨S1x64x1x1, .f32⟩
  | 75 => ⟨S_, .f32⟩
  | 76 => ⟨S1x64x1x1, .f32⟩
  | 77 => ⟨S1x64x1x1, .f32⟩
  | 78 => ⟨S32x64x64x64, .f32⟩
  | 79 => ⟨S_, .f32⟩
  | 80 => ⟨S64, .f32⟩
  | 81 => ⟨S1x64x1x1, .f32⟩
  | 82 => ⟨S_, .f32⟩
  | 83 => ⟨S1x64x1x1, .f32⟩
  | 84 => ⟨S1x64x1x1, .f32⟩
  | 85 => ⟨S_, .f32⟩
  | 86 => ⟨S1x64x1x1, .f32⟩
  | 87 => ⟨S1x64x1x1, .f32⟩
  | 88 => ⟨S32x64x64x64, .f32⟩
  | 89 => ⟨S_, .f32⟩
  | 90 => ⟨S64, .f32⟩
  | 91 => ⟨S1x64x1x1, .f32⟩
  | 92 => ⟨S_, .f32⟩
  | 93 => ⟨S1x64x1x1, .f32⟩
  | 94 => ⟨S1x64x1x1, .f32⟩
  | 95 => ⟨S32x64x64x64, .f32⟩
  | 96 => ⟨S_, .f32⟩
  | 97 => ⟨S64, .f32⟩
  | 98 => ⟨S1x64x1x1, .f32⟩
  | 99 => ⟨S_, .f32⟩
  | 100 => ⟨S1x64x1x1, .f32⟩
  | 101 => ⟨S1x64x1x1, .f32⟩
  | 102 => ⟨S32x64x64x64, .f32⟩
  | 103 => ⟨S_, .f32⟩
  | 104 => ⟨S64, .f32⟩
  | 105 => ⟨S1x64x1x1, .f32⟩
  | 106 => ⟨S_, .f32⟩
  | 107 => ⟨S1x64x1x1, .f32⟩
  | 108 => ⟨S1x64x1x1, .f32⟩
  | 109 => ⟨S32x64x64x64, .f32⟩
  | 110 => ⟨S_, .f32⟩
  | 111 => ⟨S64, .f32⟩
  | 112 => ⟨S1x64x1x1, .f32⟩
  | 113 => ⟨S_, .f32⟩
  | 114 => ⟨S1x64x1x1, .f32⟩
  | 115 => ⟨S1x64x1x1, .f32⟩
  | 116 => ⟨S32x64x64x64, .f32⟩
  | 117 => ⟨S_, .f32⟩
  | 118 => ⟨S64, .f32⟩
  | 119 => ⟨S1x64x1x1, .f32⟩
  | 120 => ⟨S_, .f32⟩
  | 121 => ⟨S1x64x1x1, .f32⟩
  | 122 => ⟨S1x64x1x1, .f32⟩
  | 123 => ⟨S32x64x64x64, .f32⟩
  | 124 => ⟨S_, .f32⟩
  | 125 => ⟨S64, .f32⟩
  | 126 => ⟨S1x64x1x1, .f32⟩
  | 127 => ⟨S_, .f32⟩
  | _ => ⟨S32x256x64x64, .f32⟩

abbrev hbmTy0_1 (i : Nat) : BufTy := match i % 128 with
  | 0 => ⟨S1x64x1x1, .f32⟩
  | 1 => ⟨S1x64x1x1, .f32⟩
  | 2 => ⟨S1x64x1x1, .f32⟩
  | 3 => ⟨S1x64x1x1, .f32⟩
  | 4 => ⟨S1x64x1x1, .f32⟩
  | 5 => ⟨S1x64x1x1, .f32⟩
  | 6 => ⟨S1x64x1x1, .f32⟩
  | 7 => ⟨S1x64x1x1, .f32⟩
  | 8 => ⟨S1x64x1x1, .f32⟩
  | 9 => ⟨S1x64x1x1, .f32⟩
  | 10 => ⟨S1x64x1x1, .f32⟩
  | 11 => ⟨S1x64x1x1, .f32⟩
  | 12 => ⟨S1x64x1x1, .f32⟩
  | 13 => ⟨S1x64x1x1, .f32⟩
  | 14 => ⟨S1x64x1x1, .f32⟩
  | 15 => ⟨S1x64x1x1, .f32⟩
  | 16 => ⟨S1x64x1x1, .f32⟩
  | 17 => ⟨S1x64x1x1, .f32⟩
  | 18 => ⟨S1x64x1x1, .f32⟩
  | 19 => ⟨S1x64x1x1, .f32⟩
  | 20 => ⟨S1x64x1x1, .f32⟩
  | 21 => ⟨S1x64x1x1, .f32⟩
  | 22 => ⟨S1x64x1x1, .f32⟩
  | 23 => ⟨S1x64x1x1, .f32⟩
  | 24 => ⟨S1x64x1x1, .f32⟩
  | 25 => ⟨S1x64x1x1, .f32⟩
  | 26 => ⟨S1x64x1x1, .f32⟩
  | 27 => ⟨S1x64x1x1, .f32⟩
  | 28 => ⟨S1x64x1x1, .f32⟩
  | 29 => ⟨S1x64x1x1, .f32⟩
  | 30 => ⟨S1x64x1x1, .f32⟩
  | 31 => ⟨S1x64x1x1, .f32⟩
  | 32 => ⟨S32x64x64x64, .f32⟩
  | 33 => ⟨S32x64x64x64, .f32⟩
  | 34 => ⟨S32x64x64x64, .f32⟩
  | 35 => ⟨S32x64x64x64, .f32⟩
  | 36 => ⟨S32x64x64x64, .f32⟩
  | 37 => ⟨S32x64x64x64, .f32⟩
  | 38 => ⟨S32x64x64x64, .f32⟩
  | 39 => ⟨S32x64x64x64, .f32⟩
  | 40 => ⟨S32x64x64x64, .f32⟩
  | 41 => ⟨S32x64x64x64, .f32⟩
  | 42 => ⟨S32x64x64x64, .f32⟩
  | 43 => ⟨S32x64x64x64, .f32⟩
  | 44 => ⟨S32x64x64x64, .f32⟩
  | 45 => ⟨S32x64x64x64, .f32⟩
  | 46 => ⟨S32x64x64x64, .f32⟩
  | 47 => ⟨S32x64x64x64, .f32⟩
  | 48 => ⟨S32x64x64x64, .f32⟩
  | 49 => ⟨S32x64x64x64, .f32⟩
  | 50 => ⟨S32x64x64x64, .f32⟩
  | 51 => ⟨S32x64x64x64, .f32⟩
  | 52 => ⟨S32x64x64x64, .f32⟩
  | 53 => ⟨S32x64x64x64, .f32⟩
  | 54 => ⟨S32x64x64x64, .f32⟩
  | 55 => ⟨S32x64x64x64, .f32⟩
  | 56 => ⟨S32x64x64x64, .f32⟩
  | 57 => ⟨S32x64x64x64, .f32⟩
  | 58 => ⟨S1x64x1x1, .f32⟩
  | 59 => ⟨S1x64x1x1, .f32⟩
  | 60 => ⟨S1x64x1x1, .f32⟩
  | 61 => ⟨S1x64x1x1, .f32⟩
  | 62 => ⟨S1x64x1x1, .f32⟩
  | 63 => ⟨S1x64x1x1, .f32⟩
  | 64 => ⟨S1x64x1x1, .f32⟩
  | 65 => ⟨S1x64x1x1, .f32⟩
  | 66 => ⟨S1x64x1x1, .f32⟩
  | 67 => ⟨S1x64x1x1, .f32⟩
  | 68 => ⟨S32x64x64x64, .f32⟩
  | 69 => ⟨S32x64x64x64, .f32⟩
  | 70 => ⟨S32x64x64x64, .f32⟩
  | 71 => ⟨S32x64x64x64, .f32⟩
  | 72 => ⟨S32x64x64x64, .f32⟩
  | 73 => ⟨S32x64x64x64, .f32⟩
  | 74 => ⟨S32x64x64x64, .f32⟩
  | 75 => ⟨S32x64x64x64, .f32⟩
  | 76 => ⟨S32x64x64x64, .f32⟩
  | 77 => ⟨S32x64x64x64, .f32⟩
  | 78 => ⟨S32x64x64x64, .f32⟩
  | 79 => ⟨S32x64x64x64, .f32⟩
  | 80 => ⟨S32x64x64x64, .f32⟩
  | 81 => ⟨S32x64x64x64, .f32⟩
  | 82 => ⟨S32x64x64x64, .f32⟩
  | 83 => ⟨S32x64x64x64, .f32⟩
  | 84 => ⟨S32x64x64x64, .f32⟩
  | 85 => ⟨S32x64x64x64, .f32⟩
  | 86 => ⟨S32x64x64x64, .f32⟩
  | 87 => ⟨S32x64x64x64, .f32⟩
  | 88 => ⟨S32x64x64x64, .f32⟩
  | 89 => ⟨S32x64x64x64, .f32⟩
  | 90 => ⟨S32x64x64x64, .f32⟩
  | 91 => ⟨S32x64x64x64, .f32⟩
  | 92 => ⟨S32x64x64x64, .f32⟩
  | 93 => ⟨S32x64x64x64, .f32⟩
  | 94 => ⟨S32x64x64x64, .f32⟩
  | 95 => ⟨S32x64x64x64, .f32⟩
  | 96 => ⟨S32x64x64x64, .f32⟩
  | 97 => ⟨S32x64x64x64, .f32⟩
  | 98 => ⟨S32x64x64x64, .f32⟩
  | 99 => ⟨S32x64x64x64, .f32⟩
  | 100 => ⟨S32x64x64x64, .f32⟩
  | 101 => ⟨S32x64x64x64, .f32⟩
  | 102 => ⟨S32x64x64x64, .f32⟩
  | 103 => ⟨S32x64x64x64, .f32⟩
  | 104 => ⟨S32x64x64x64, .f32⟩
  | 105 => ⟨S32x64x64x64, .f32⟩
  | 106 => ⟨S32x64x64x64, .f32⟩
  | 107 => ⟨S32x64x64x64, .f32⟩
  | 108 => ⟨S32x64x64x64, .f32⟩
  | 109 => ⟨S32x64x64x64, .f32⟩
  | 110 => ⟨S32x64x64x64, .f32⟩
  | 111 => ⟨S32x64x64x64, .f32⟩
  | 112 => ⟨S32x256x64x64, .f32⟩
  | 113 => ⟨S1x256x1x1, .f32⟩
  | 114 => ⟨S32x256x64x64, .f32⟩
  | 115 => ⟨S32x256x64x64, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_cst_11 : Ref sig .tc := ⟨.hbm, 62, rfl⟩
abbrev main_v38 : Ref sig .tc := ⟨.hbm, 63, rfl⟩
abbrev main_v39 : Ref sig .tc := ⟨.hbm, 64, rfl⟩
abbrev main_cst_12 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_v43 : Ref sig .tc := ⟨.hbm, 70, rfl⟩
abbrev main_v44 : Ref sig .tc := ⟨.hbm, 71, rfl⟩
abbrev main_cst_14 : Ref sig .tc := ⟨.hbm, 72, rfl⟩
abbrev main_v45 : Ref sig .tc := ⟨.hbm, 73, rfl⟩
abbrev main_v46 : Ref sig .tc := ⟨.hbm, 74, rfl⟩
abbrev main_cst_15 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_16 : Ref sig .tc := ⟨.hbm, 79, rfl⟩
abbrev main_v50 : Ref sig .tc := ⟨.hbm, 80, rfl⟩
abbrev main_v51 : Ref sig .tc := ⟨.hbm, 81, rfl⟩
abbrev main_cst_17 : Ref sig .tc := ⟨.hbm, 82, rfl⟩
abbrev main_v52 : Ref sig .tc := ⟨.hbm, 83, rfl⟩
abbrev main_v53 : Ref sig .tc := ⟨.hbm, 84, rfl⟩
abbrev main_cst_18 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_19 : Ref sig .tc := ⟨.hbm, 89, rfl⟩
abbrev main_v57 : Ref sig .tc := ⟨.hbm, 90, rfl⟩
abbrev main_v58 : Ref sig .tc := ⟨.hbm, 91, rfl⟩
abbrev main_cst_20 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_21 : Ref sig .tc := ⟨.hbm, 96, rfl⟩
abbrev main_v62 : Ref sig .tc := ⟨.hbm, 97, rfl⟩
abbrev main_v63 : Ref sig .tc := ⟨.hbm, 98, rfl⟩
abbrev main_cst_22 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_23 : Ref sig .tc := ⟨.hbm, 103, rfl⟩
abbrev main_v67 : Ref sig .tc := ⟨.hbm, 104, rfl⟩
abbrev main_v68 : Ref sig .tc := ⟨.hbm, 105, rfl⟩
abbrev main_cst_24 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_25 : Ref sig .tc := ⟨.hbm, 110, rfl⟩
abbrev main_v72 : Ref sig .tc := ⟨.hbm, 111, rfl⟩
abbrev main_v73 : Ref sig .tc := ⟨.hbm, 112, rfl⟩
abbrev main_cst_26 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_27 : Ref sig .tc := ⟨.hbm, 117, rfl⟩
abbrev main_v77 : Ref sig .tc := ⟨.hbm, 118, rfl⟩
abbrev main_v78 : Ref sig .tc := ⟨.hbm, 119, rfl⟩
abbrev main_cst_28 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_29 : Ref sig .tc := ⟨.hbm, 124, rfl⟩
abbrev main_v82 : Ref sig .tc := ⟨.hbm, 125, rfl⟩
abbrev main_v83 : Ref sig .tc := ⟨.hbm, 126, rfl⟩
abbrev main_cst_30 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩

abbrev nD : Nat := 1
abbrev τ : Topo := Topo.v7x

variable {F : FTy → Type} [FloatOps F]
-- ==== Proof.Stats.lean ====
/- The first pallas_call, `cc0_qbn_stats`, at any float instance: what its body leaves in the statistics tile at a grid
   point, the body's triple, and the pipeline's proof data with the accumulation over the grid. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.Ring
public import Idealize.ShloMosaic.Lib.Tactic
public import Idealize.ShloMosaic.Lib.WordCmp

@[expose] public section

set_option synthInstance.maxSize 4096
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of the body -/

/-- One quarter of the channels of one image, with the leading unit axis dropped. -/
def quarter (v : Vec F S1x64x32x128 .f32) : FVec F S64x32x128 .f32 :=
  shapeCast S64x32x128 v shapeCasts_S1x64x32x128_S64x32x128

/-- The sum of each channel's plane, as a column. -/
def planeSum (v : FVec F S64x32x128 .f32) : FVec F S64x1 .f32 :=
  shapeCast S64x1 (shapeCast S64x1x1
    (multiReduction .add [1, 2] S64 v 0x00000000#32 reduces_S64x32x128_S64 (.inl rfl) rfl)
    shapeCasts_S64_S64x1x1) shapeCasts_S64x1x1_S64x1

/-- The fourteen columns one image gives: the four sums, then the ten sums of products. -/
def sums14 (vr vi vj vk : FVec F S64x32x128 .f32) : FVec F S64x14 .f32 :=
  concatenate S64x14 1 [⟨S64x1, planeSum vr⟩, ⟨S64x1, planeSum vi⟩, ⟨S64x1, planeSum vj⟩, ⟨S64x1, planeSum vk⟩, ⟨S64x1, planeSum (mulf vr vr)⟩, ⟨S64x1, planeSum (mulf vi vi)⟩, ⟨S64x1, planeSum (mulf vj vj)⟩, ⟨S64x1, planeSum (mulf vk vk)⟩, ⟨S64x1, planeSum (mulf vr vi)⟩, ⟨S64x1, planeSum (mulf vr vj)⟩, ⟨S64x1, planeSum (mulf vr vk)⟩, ⟨S64x1, planeSum (mulf vi vj)⟩, ⟨S64x1, planeSum (mulf vi vk)⟩, ⟨S64x1, planeSum (mulf vj vk)⟩]
    concatenates_S64x1_S64x1_S64x1_S64x1_S64x1_S64x1_S64x1_S64x1_S64x1_S64x1_S64x1_S64x1_S64x1_S64x1_S64x14_d1

/-- The columns of all four images of a block, added up in the order the body adds them. -/
def blockSums (x0 : Vec F S4x256x32x128 .f32) : FVec F S64x14 .f32 :=
  addf (addf (addf
      (sums14 (quarter (View.ld x0 (Rect.unit (s := S4x256x32x128) ![0, 0, 0, 0] S1x64x32x128.size inb_S4x256x32x128_S1x64x32x128_0_0_0_0))) (quarter (View.ld x0 (Rect.unit (s := S4x256x32x128) ![0, 64, 0, 0] S1x64x32x128.size inb_S4x256x32x128_S1x64x32x128_0_64_0_0))) (quarter (View.ld x0 (Rect.unit (s := S4x256x32x128) ![0, 128, 0, 0] S1x64x32x128.size inb_S4x256x32x128_S1x64x32x128_0_128_0_0))) (quarter (View.ld x0 (Rect.unit (s := S4x256x32x128) ![0, 192, 0, 0] S1x64x32x128.size inb_S4x256x32x128_S1x64x32x128_0_192_0_0))))
      (sums14 (quarter (View.ld x0 (Rect.unit (s := S4x256x32x128) ![1, 0, 0, 0] S1x64x32x128.size inb_S4x256x32x128_S1x64x32x128_1_0_0_0))) (quarter (View.ld x0 (Rect.unit (s := S4x256x32x128) ![1, 64, 0, 0] S1x64x32x128.size inb_S4x256x32x128_S1x64x32x128_1_64_0_0))) (quarter (View.ld x0 (Rect.unit (s := S4x256x32x128) ![1, 128, 0, 0] S1x64x32x128.size inb_S4x256x32x128_S1x64x32x128_1_128_0_0))) (quarter (View.ld x0 (Rect.unit (s := S4x256x32x128) ![1, 192, 0, 0] S1x64x32x128.size inb_S4x256x32x128_S1x64x32x128_1_192_0_0)))))
      (sums14 (quarter (View.ld x0 (Rect.unit (s := S4x256x32x128) ![2, 0, 0, 0] S1x64x32x128.size inb_S4x256x32x128_S1x64x32x128_2_0_0_0))) (quarter (View.ld x0 (Rect.unit (s := S4x256x32x128) ![2, 64, 0, 0] S1x64x32x128.size inb_S4x256x32x128_S1x64x32x128_2_64_0_0))) (quarter (View.ld x0 (Rect.unit (s := S4x256x32x128) ![2, 128, 0, 0] S1x64x32x128.size inb_S4x256x32x128_S1x64x32x128_2_128_0_0))) (quarter (View.ld x0 (Rect.unit (s := S4x256x32x128) ![2, 192, 0, 0] S1x64x32x128.size inb_S4x256x32x128_S1x64x32x128_2_192_0_0)))))
      (sums14 (quarter (View.ld x0 (Rect.unit (s := S4x256x32x128) ![3, 0, 0, 0] S1x64x32x128.size inb_S4x256x32x128_S1x64x32x128_3_0_0_0))) (quarter (View.ld x0 (Rect.unit (s := S4x256x32x128) ![3, 64, 0, 0] S1x64x32x128.size inb_S4x256x32x128_S1x64x32x128_3_64_0_0))) (quarter (View.ld x0 (Rect.unit (s := S4x256x32x128) ![3, 128, 0, 0] S1x64x32x128.size inb_S4x256x32x128_S1x64x32x128_3_128_0_0))) (quarter (View.ld x0 (Rect.unit (s := S4x256x32x128) ![3, 192, 0, 0] S1x64x32x128.size inb_S4x256x32x128_S1x64x32x128_3_192_0_0))))

/-- The part of the statistics tile the body updates: its first fourteen columns. -/
abbrev rTop : Rect S1x64x16 := Rect.unit (s := S1x64x16) ![0, 0, 0] S1x64x14.size inb_S1x64x16_S1x64x14_0_0_0
/-- The whole statistics tile. -/
abbrev rAll : Rect S1x64x16 := Rect.unit (s := S1x64x16) ![0, 0, 0] S1x64x16.size inb_S1x64x16_S1x64x16_0_0_0

/-- The new first fourteen columns: the old ones plus the block's sums. -/
def newTop (x0 : Vec F S4x256x32x128 .f32) (prev : Vec F S1x64x14 .f32) : FVec F S1x64x14 .f32 :=
  shapeCast S1x64x14 (addf (shapeCast S64x14 prev shapeCasts_S1x64x14_S64x14) (blockSums x0)) shapeCasts_S64x14_S1x64x14

/-- The statistics tile after one grid point, from the block and the tile before: only the first fourteen columns move. -/
def step (x0 : Vec F S4x256x32x128 .f32) (prev : Vec F S1x64x16 .f32) : Vec F S1x64x16 .f32 :=
  VecWindow.put prev ![0, 0, 0] S1x64x14.size (newTop x0 (View.ld prev rTop))

/-! ## The windows' blocks -/

section Region
variable (V : (c : Dev nD) → (b : Ref sig .tc) → Buf (Elt F) ((c : Thread nD τ).loc b))

/-- The block of window `w` at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's `if`, from the grid coordinate. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0, e0]
    word_cmp
   : ∀ t : Fin grid0.N, cond0 (grid0.coords t) ↔ t.val % 8 = 0)

/-! ## The body's triple -/

/-- The current staging memref of the input window at point `t`, and its wholeness; the same of the output window. -/
abbrev ms0_0 (t : Fin cfg0.N) : Memref sig .tc .vmem S4x256x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x16 .f32 := win0_1.stage (cfg0.slots t 1)
abbrev hs0_1 (t : Fin cfg0.N) : (ms0_1 t).IsWhole := hstage0_1 ((cfg0.slots t 1).cast nbuf0_1)

set_option maxHeartbeats 2000000 in
/-- At the first point, whatever the tile held, the body leaves one step over the zero tile. -/
theorem kernel_first (c : Dev nD) (i : grid0.Coords) (arg1 : Memref sig .tc .vmem S4x256x32x128 .f32) (harg1 : arg1.IsWhole)
    (arg2 : Memref sig .tc .vmem S1x64x16 .f32) (harg2 : arg2.IsWhole) (hc0 : cond0 i)
    (x0 : Vec F S4x256x32x128 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (step x0 (k0_pay2 (F := F)))) -∗ K ⟨⟩))
      ⊢ wp frame (wpE (defs₀ (F := F)) Variants.none c none) E (cc0_qbn_stats i arg1 harg1 arg2 harg2) K := by
  simp only [cc0_qbn_stats_eq_skeleton]; unfold cc0_qbn_stats_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%d1, %f1, -, H1⟩, Hk⟩
  subst hf0
  sl_exec (disch := first | sl_exact hc0)
  sl_step
  iapply Hk
  isplitl [H0]
  · iexists f0; isplitr; · ipureintro; rfl
    iexact H0
  iexists _; isplitr
  swap; · iexact H1
  ipureintro
  refine (View.read_writes_cons_put (s := S1x64x16) (off' := ![0, 0, 0]) _ _ _ _ _ rfl).trans ?_
  have hA (f) : arg2.view.read (Elt F) (arg2.view.writes (Elt F) f kernel_first.sl.H1_1) = (k0_pay2 (F := F)) :=
    View.read_writes_full arg2.view f inb_S1x64x16_S1x64x16_0_0_0 (k0_pay2 (F := F)) []
  have hV : kernel_first.sl.v250 (F := F) c arg2 = View.ld (k0_pay2 (F := F)) rTop :=
    congrArg (fun x : Vec F S1x64x16 .f32 => View.ld x rTop) (hA arg2.view.junk)
  rw [hA, hV]
  rfl

set_option maxHeartbeats 2000000 in
/-- At a later point the body leaves one step over what the tile held. -/
theorem kernel_later (c : Dev nD) (i : grid0.Coords) (arg1 : Memref sig .tc .vmem S4x256x32x128 .f32) (harg1 : arg1.IsWhole)
    (arg2 : Memref sig .tc .vmem S1x64x16 .f32) (harg2 : arg2.IsWhole) (hc0 : ¬cond0 i)
    (x0 : Vec F S4x256x32x128 .f32) (xo : Vec F S1x64x16 .f32) (E : Set ℕ) (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare (step x0 xo)) -∗ K ⟨⟩))
      ⊢ wp frame (wpE (defs₀ (F := F)) Variants.none c none) E (cc0_qbn_stats i arg1 harg1 arg2 harg2) K := by
  simp only [cc0_qbn_stats_eq_skeleton]; unfold cc0_qbn_stats_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, Hk⟩
  subst hf0 hf1
  sl_exec (disch := first | sl_exact hc0)
  sl_step
  iapply Hk
  isplitl [H0]
  · iexists f0; isplitr; · ipureintro; rfl
    iexact H0
  iexists _; isplitr
  swap; · iexact H1
  ipureintro
  refine (View.read_writes_cons_put (s := S1x64x16) (off' := ![0, 0, 0]) _ _ _ _ _ rfl).trans ?_
  rfl

/-! ## What the tile holds after each point -/

/-- The tile after the body at position `n`: one step over the zero tile at the start, over the tile before afterwards. -/
def tileAt (c : Dev nD) : (n : ℕ) → n < cfg0.N → Vec F S1x64x16 .f32
  | 0, hn => step (iblk0 V c 0 ⟨0, hn⟩) (k0_pay2 (F := F))
  | n + 1, hn => step (iblk0 V c 0 ⟨n + 1, hn⟩) (tileAt c n (Nat.lt_of_succ_lt hn))

/-- The tile at the first point. -/
theorem tileAt_first (c : Dev nD) (t : Fin cfg0.N) (h0 : t.val % 8 = 0) :
    tileAt V c t.val t.isLt = step (iblk0 V c 0 t) (k0_pay2 (F := F)) := by
  obtain ⟨n, hn⟩ := t
  have hN : n < 8 := lt_of_lt_of_eq hn (show cfg0.N = 8 from N_0)
  cases n with
  | zero => rfl
  | succ n => exfalso; dsimp only at h0; omega

/-- The tile at a later point. -/
theorem tileAt_later (c : Dev nD) (t : Fin cfg0.N) (h0 : ¬t.val % 8 = 0) :
    tileAt V c t.val t.isLt = step (iblk0 V c 0 t) (tileAt V c (t.val - 1) (Nat.lt_of_le_of_lt (Nat.sub_le _ _) t.isLt)) := by
  obtain ⟨n, hn⟩ := t
  cases n with
  | zero => exfalso; exact h0 (Nat.zero_mod _)
  | succ n => rfl

/-! ## The pipeline's proof data -/

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (tileAt V c t.val t.isLt)
  Φ _ := Pipeline.ΦA spec0 c
  q _ := fullShare
  owed _ := 0

/-- Its arrays are the region's entry contents. -/
theorem A_eq0 (c : Dev nD) (w : Fin cfg0.W) : (dat0 V c).A w = V c (Pipeline.arrRef spec0 w) := by
  dsimp only [dat0]

/-- What the body leaves in each window. -/
theorem after0_0 (c : Dev nD) (t : Fin cfg0.N) : (dat0 V c).after 0 t = iblk0 V c 0 t := by dsimp only [dat0]
/-- The statistics window is left at the sums up to this point. -/
theorem after0_1 (c : Dev nD) (t : Fin cfg0.N) : (dat0 V c).after 1 t = (tileAt V c t.val t.isLt) := by dsimp only [dat0]

/-- What the body finds in the input window. -/
theorem before0_0 (c : Dev nD) (t : Fin cfg0.N) (d) : (dat0 V c).before 0 t d = iblk0 V c 0 t :=
  before0_0_of V (dat0 V c) (A_eq0 V c 0) (after0_0 V c) t d
/-- What the body finds in the output window at a later point: the tile the point before left. -/
theorem before0_1_later (c : Dev nD) (t : Fin cfg0.N) (h0 : ¬t.val % 8 = 0) (d) :
    (dat0 V c).before 1 t d = (tileAt V c (t.val - 1) (Nat.lt_of_le_of_lt (Nat.sub_le _ _) t.isLt)) := by
  have hN : t.val < 8 := lt_of_lt_of_eq t.isLt (show cfg0.N = 8 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- What the body returns at point `t`. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point takes the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 8 = 0
  · rw [tileAt_first V c t h0]
    iintro ⟨HΦ, Ho, ⟨%d0, H0⟩, ⟨%d1, H1⟩⟩
    iapply (kernel_first c (grid0.coords t) _ _ _ _ ((hcond0 t).mpr h0) (iblk0 V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [tileAt_later V c t h0]
    simp only [before0_1_later V c t h0]
    iintro ⟨HΦ, Ho, ⟨%d0, H0⟩, ⟨%d1, H1⟩⟩
    iapply (kernel_later c (grid0.coords t) _ _ _ _ (fun h => h0 ((hcond0 t).mp h)) (iblk0 V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- The body table's row at point `t` is the body. -/
theorem defs₀_row0 (t : Fin cfg0.N) :
    defs₀ (F := F) .tc cfg0.body (cfg0.bodyArgs t (cfg0.slots t)) = bodyAt0 t := by
  unfold defs₀; rw [Defs.onTc_tc]

/-- The library's body obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.KernelIdeal.Own

end
-- ==== Proof.Apply.lean ====
/- The second pallas_call, `cc1_qbn_apply`, at any float instance: the block its body leaves at a grid point, in the
   terms of the problem (moments, whitening weights, mixing rows), the body's triple and the pipeline's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp

@[expose] public section

set_option synthInstance.maxSize 4096
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of the body -/

/-- A column of the statistics tile divided by the number of elements (a multiplication by its exact reciprocal). -/
def moment (s : Vec F S1x64x16 .f32) (o : Fin 2 → ℕ) (h : S64x16.Slices o S64x1) : FVec F S64x1 .f32 :=
  mulf (extractStridedSlice S64x1 o (shapeCast S64x16 s shapeCasts_S1x64x16_S64x16) h)
    (broadcast S64x1 (Scalar.ofBits .f32 0x37000000#32))

/-- The small constant added to a variance, as a column. -/
def epsCol : FVec F S64x1 .f32 := broadcast S64x1 (Scalar.ofBits .f32 0x3727C5AC#32)

/-- The mean of component r. -/
def meanR (s : Vec F S1x64x16 .f32) : FVec F S64x1 .f32 := moment s ![0, 0] slices_S64x16_o0_0_S64x1
/-- The mean of component i. -/
def meanI (s : Vec F S1x64x16 .f32) : FVec F S64x1 .f32 := moment s ![0, 1] slices_S64x16_o0_1_S64x1
/-- The mean of component j. -/
def meanJ (s : Vec F S1x64x16 .f32) : FVec F S64x1 .f32 := moment s ![0, 2] slices_S64x16_o0_2_S64x1
/-- The mean of component k. -/
def meanK (s : Vec F S1x64x16 .f32) : FVec F S64x1 .f32 := moment s ![0, 3] slices_S64x16_o0_3_S64x1
/-- The variance of component r, with the small constant. -/
def varR (s : Vec F S1x64x16 .f32) : FVec F S64x1 .f32 :=
  addf (subf (moment s ![0, 4] slices_S64x16_o0_4_S64x1) (mulf (meanR s) (meanR s))) epsCol
/-- The variance of component i, with the small constant. -/
def varI (s : Vec F S1x64x16 .f32) : FVec F S64x1 .f32 :=
  addf (subf (moment s ![0, 5] slices_S64x16_o0_5_S64x1) (mulf (meanI s) (meanI s))) epsCol
/-- The variance of component j, with the small constant. -/
def varJ (s : Vec F S1x64x16 .f32) : FVec F S64x1 .f32 :=
  addf (subf (moment s ![0, 6] slices_S64x16_o0_6_S64x1) (mulf (meanJ s) (meanJ s))) epsCol
/-- The variance of component k, with the small constant. -/
def varK (s : Vec F S1x64x16 .f32) : FVec F S64x1 .f32 :=
  addf (subf (moment s ![0, 7] slices_S64x16_o0_7_S64x1) (mulf (meanK s) (meanK s))) epsCol
/-- The covariance of components r and i. -/
def covRI (s : Vec F S1x64x16 .f32) : FVec F S64x1 .f32 :=
  subf (moment s ![0, 8] slices_S64x16_o0_8_S64x1) (mulf (meanR s) (meanI s))
/-- The covariance of components r and j. -/
def covRJ (s : Vec F S1x64x16 .f32) : FVec F S64x1 .f32 :=
  subf (moment s ![0, 9] slices_S64x16_o0_9_S64x1) (mulf (meanR s) (meanJ s))
/-- The covariance of components r and k. -/
def covRK (s : Vec F S1x64x16 .f32) : FVec F S64x1 .f32 :=
  subf (moment s ![0, 10] slices_S64x16_o0_10_S64x1) (mulf (meanR s) (meanK s))
/-- The covariance of components i and j. -/
def covIJ (s : Vec F S1x64x16 .f32) : FVec F S64x1 .f32 :=
  subf (moment s ![0, 11] slices_S64x16_o0_11_S64x1) (mulf (meanI s) (meanJ s))
/-- The covariance of components i and k. -/
def covIK (s : Vec F S1x64x16 .f32) : FVec F S64x1 .f32 :=
  subf (moment s ![0, 12] slices_S64x16_o0_12_S64x1) (mulf (meanI s) (meanK s))
/-- The covariance of components j and k. -/
def covJK (s : Vec F S1x64x16 .f32) : FVec F S64x1 .f32 :=
  subf (moment s ![0, 13] slices_S64x16_o0_13_S64x1) (mulf (meanJ s) (meanK s))
/-- The weight rr of the triangular factor. -/
def wRR (s : Vec F S1x64x16 .f32) : FVec F S64x1 .f32 := sqrt (varR s)
/-- The weight ri of the triangular factor. -/
def wRI (s : Vec F S1x64x16 .f32) : FVec F S64x1 .f32 := divf (covRI s) (wRR s)
/-- The weight ii of the triangular factor. -/
def wII (s : Vec F S1x64x16 .f32) : FVec F S64x1 .f32 := sqrt (subf (varI s) (mulf (wRI s) (wRI s)))
/-- The weight rj of the triangular factor. -/
def wRJ (s : Vec F S1x64x16 .f32) : FVec F S64x1 .f32 := divf (covRJ s) (wRR s)
/-- The weight ij of the triangular factor. -/
def wIJ (s : Vec F S1x64x16 .f32) : FVec F S64x1 .f32 := divf (subf (covIJ s) (mulf (wRI s) (wRJ s))) (wII s)
/-- The weight jj of the triangular factor. -/
def wJJ (s : Vec F S1x64x16 .f32) : FVec F S64x1 .f32 := sqrt (subf (varJ s) (addf (mulf (wIJ s) (wIJ s)) (mulf (wRJ s) (wRJ s))))
/-- The weight rk of the triangular factor. -/
def wRK (s : Vec F S1x64x16 .f32) : FVec F S64x1 .f32 := divf (covRK s) (wRR s)
/-- The weight ik of the triangular factor. -/
def wIK (s : Vec F S1x64x16 .f32) : FVec F S64x1 .f32 := divf (subf (covIK s) (mulf (wRI s) (wRK s))) (wII s)
/-- The weight jk of the triangular factor. -/
def wJK (s : Vec F S1x64x16 .f32) : FVec F S64x1 .f32 := divf (subf (covJK s) (addf (mulf (wIJ s) (wIK s)) (mulf (wRJ s) (wRK s)))) (wJJ s)
/-- The weight kk of the triangular factor. -/
def wKK (s : Vec F S1x64x16 .f32) : FVec F S64x1 .f32 := sqrt (subf (varK s) (addf (addf (mulf (wJK s) (wJK s)) (mulf (wIK s) (wIK s))) (mulf (wRK s) (wRK s))))

/-- A column of the table of gammas. -/
def gcol (v : Vec F S64x1 .f32) : FVec F S64x1 .f32 := shapeCast S64x1 v shapeCasts_S64x1_S64x1

/-- The four coefficients of one output component, from the four gammas it takes. -/
def coefR (s : Vec F S1x64x16 .f32) (g0 : FVec F S64x1 .f32) : FVec F S64x1 .f32 := mulf g0 (wRR s)
def coefI (s : Vec F S1x64x16 .f32) (g0 g1 : FVec F S64x1 .f32) : FVec F S64x1 .f32 :=
  addf (mulf g0 (wRI s)) (mulf g1 (wII s))
def coefJ (s : Vec F S1x64x16 .f32) (g0 g1 g2 : FVec F S64x1 .f32) : FVec F S64x1 .f32 :=
  addf (addf (mulf g0 (wRJ s)) (mulf g1 (wIJ s))) (mulf g2 (wJJ s))
def coefK (s : Vec F S1x64x16 .f32) (g0 g1 g2 g3 : FVec F S64x1 .f32) : FVec F S64x1 .f32 :=
  addf (addf (addf (mulf g0 (wRK s)) (mulf g1 (wIK s))) (mulf g2 (wJK s))) (mulf g3 (wKK s))

/-- A column spread over each channel's plane. -/
def spread (v : FVec F S64x1 .f32) : FVec F S64x32x128 .f32 :=
  broadcastTo S64x32x128 (shapeCast S64x1x1 v shapeCasts_S64x1_S64x1x1) broadcasts_S64x1x1_S64x32x128

/-- One image's quarter with the leading unit axis dropped. -/
def plane (v : Vec F S1x64x32x128 .f32) : FVec F S64x32x128 .f32 :=
  shapeCast S64x32x128 v shapeCasts_S1x64x32x128_S64x32x128

/-- The affine combination the body stores: the coefficients times the four quarters, plus the offset `beta` less the
    coefficients times the means. -/
def affine (s : Vec F S1x64x16 .f32) (a0 a1 a2 a3 : FVec F S64x1 .f32) (beta : Vec F S64x1 .f32)
    (xr xi xj xk : Vec F S1x64x32x128 .f32) : FVec F S1x64x32x128 .f32 :=
  shapeCast S1x64x32x128
    (addf (addf (addf (addf (mulf (spread a0) (plane xr)) (mulf (spread a1) (plane xi))) (mulf (spread a2) (plane xj)))
        (mulf (spread a3) (plane xk)))
      (spread (subf (gcol beta)
        (addf (addf (addf (mulf a0 (meanR s)) (mulf a1 (meanI s))) (mulf a2 (meanJ s))) (mulf a3 (meanK s))))))
    shapeCasts_S64x32x128_S1x64x32x128

/-- The body's rectangles: the whole statistics tile, -/
abbrev rS : Rect S1x64x16 := Rect.unit (s := S1x64x16) ![0, 0, 0] S1x64x16.size inb_S1x64x16_S1x64x16_0_0_0
/-- each column of the gammas, -/
abbrev rG0 : Rect S64x10 := Rect.unit (s := S64x10) ![0, 0] S64x1.size inb_S64x10_S64x1_0_0
abbrev rG1 : Rect S64x10 := Rect.unit (s := S64x10) ![0, 1] S64x1.size inb_S64x10_S64x1_0_1
abbrev rG2 : Rect S64x10 := Rect.unit (s := S64x10) ![0, 2] S64x1.size inb_S64x10_S64x1_0_2
abbrev rG3 : Rect S64x10 := Rect.unit (s := S64x10) ![0, 3] S64x1.size inb_S64x10_S64x1_0_3
abbrev rG4 : Rect S64x10 := Rect.unit (s := S64x10) ![0, 4] S64x1.size inb_S64x10_S64x1_0_4
abbrev rG5 : Rect S64x10 := Rect.unit (s := S64x10) ![0, 5] S64x1.size inb_S64x10_S64x1_0_5
abbrev rG6 : Rect S64x10 := Rect.unit (s := S64x10) ![0, 6] S64x1.size inb_S64x10_S64x1_0_6
abbrev rG7 : Rect S64x10 := Rect.unit (s := S64x10) ![0, 7] S64x1.size inb_S64x10_S64x1_0_7
abbrev rG8 : Rect S64x10 := Rect.unit (s := S64x10) ![0, 8] S64x1.size inb_S64x10_S64x1_0_8
abbrev rG9 : Rect S64x10 := Rect.unit (s := S64x10) ![0, 9] S64x1.size inb_S64x10_S64x1_0_9
/-- each column of the betas, -/
abbrev rB0 : Rect S64x4 := Rect.unit (s := S64x4) ![0, 0] S64x1.size inb_S64x4_S64x1_0_0
abbrev rB1 : Rect S64x4 := Rect.unit (s := S64x4) ![0, 1] S64x1.size inb_S64x4_S64x1_0_1
abbrev rB2 : Rect S64x4 := Rect.unit (s := S64x4) ![0, 2] S64x1.size inb_S64x4_S64x1_0_2
abbrev rB3 : Rect S64x4 := Rect.unit (s := S64x4) ![0, 3] S64x1.size inb_S64x4_S64x1_0_3
/-- and each quarter of the channels of each of the two images. -/
abbrev rX00 : Rect S2x256x32x128 := Rect.unit (s := S2x256x32x128) ![0, 0, 0, 0] S1x64x32x128.size inb_S2x256x32x128_S1x64x32x128_0_0_0_0
abbrev rX01 : Rect S2x256x32x128 := Rect.unit (s := S2x256x32x128) ![0, 64, 0, 0] S1x64x32x128.size inb_S2x256x32x128_S1x64x32x128_0_64_0_0
abbrev rX02 : Rect S2x256x32x128 := Rect.unit (s := S2x256x32x128) ![0, 128, 0, 0] S1x64x32x128.size inb_S2x256x32x128_S1x64x32x128_0_128_0_0
abbrev rX03 : Rect S2x256x32x128 := Rect.unit (s := S2x256x32x128) ![0, 192, 0, 0] S1x64x32x128.size inb_S2x256x32x128_S1x64x32x128_0_192_0_0
abbrev rX10 : Rect S2x256x32x128 := Rect.unit (s := S2x256x32x128) ![1, 0, 0, 0] S1x64x32x128.size inb_S2x256x32x128_S1x64x32x128_1_0_0_0
abbrev rX11 : Rect S2x256x32x128 := Rect.unit (s := S2x256x32x128) ![1, 64, 0, 0] S1x64x32x128.size inb_S2x256x32x128_S1x64x32x128_1_64_0_0
abbrev rX12 : Rect S2x256x32x128 := Rect.unit (s := S2x256x32x128) ![1, 128, 0, 0] S1x64x32x128.size inb_S2x256x32x128_S1x64x32x128_1_128_0_0
abbrev rX13 : Rect S2x256x32x128 := Rect.unit (s := S2x256x32x128) ![1, 192, 0, 0] S1x64x32x128.size inb_S2x256x32x128_S1x64x32x128_1_192_0_0

/-- What the body stores for output component r of one image. -/
def partR (s : Vec F S1x64x16 .f32) (g : Vec F S64x10 .f32) (bt : Vec F S64x4 .f32) (xr xi xj xk : Vec F S1x64x32x128 .f32) :
    FVec F S1x64x32x128 .f32 :=
  affine s (coefR s (gcol (View.ld g rG0)))
    (coefI s (gcol (View.ld g rG0)) (gcol (View.ld g rG1)))
    (coefJ s (gcol (View.ld g rG0)) (gcol (View.ld g rG1)) (gcol (View.ld g rG2)))
    (coefK s (gcol (View.ld g rG0)) (gcol (View.ld g rG1)) (gcol (View.ld g rG2)) (gcol (View.ld g rG3))) (View.ld bt rB0) xr xi xj xk
/-- What the body stores for output component i of one image. -/
def partI (s : Vec F S1x64x16 .f32) (g : Vec F S64x10 .f32) (bt : Vec F S64x4 .f32) (xr xi xj xk : Vec F S1x64x32x128 .f32) :
    FVec F S1x64x32x128 .f32 :=
  affine s (coefR s (gcol (View.ld g rG1)))
    (coefI s (gcol (View.ld g rG1)) (gcol (View.ld g rG4)))
    (coefJ s (gcol (View.ld g rG1)) (gcol (View.ld g rG4)) (gcol (View.ld g rG5)))
    (coefK s (gcol (View.ld g rG1)) (gcol (View.ld g rG4)) (gcol (View.ld g rG5)) (gcol (View.ld g rG6))) (View.ld bt rB1) xr xi xj xk
/-- What the body stores for output component j of one image. -/
def partJ (s : Vec F S1x64x16 .f32) (g : Vec F S64x10 .f32) (bt : Vec F S64x4 .f32) (xr xi xj xk : Vec F S1x64x32x128 .f32) :
    FVec F S1x64x32x128 .f32 :=
  affine s (coefR s (gcol (View.ld g rG2)))
    (coefI s (gcol (View.ld g rG2)) (gcol (View.ld g rG5)))
    (coefJ s (gcol (View.ld g rG2)) (gcol (View.ld g rG5)) (gcol (View.ld g rG7)))
    (coefK s (gcol (View.ld g rG2)) (gcol (View.ld g rG5)) (gcol (View.ld g rG7)) (gcol (View.ld g rG8))) (View.ld bt rB2) xr xi xj xk
/-- What the body stores for output component k of one image. -/
def partK (s : Vec F S1x64x16 .f32) (g : Vec F S64x10 .f32) (bt : Vec F S64x4 .f32) (xr xi xj xk : Vec F S1x64x32x128 .f32) :
    FVec F S1x64x32x128 .f32 :=
  affine s (coefR s (gcol (View.ld g rG3)))
    (coefI s (gcol (View.ld g rG3)) (gcol (View.ld g rG6)))
    (coefJ s (gcol (View.ld g rG3)) (gcol (View.ld g rG6)) (gcol (View.ld g rG8)))
    (coefK s (gcol (View.ld g rG3)) (gcol (View.ld g rG6)) (gcol (View.ld g rG8)) (gcol (View.ld g rG9))) (View.ld bt rB3) xr xi xj xk

/-- The output block after the body: its eight stores, last first. -/
def blockOut (x0 : Vec F S2x256x32x128 .f32) (x1 : Vec F S1x64x16 .f32) (x2 : Vec F S64x10 .f32) (x3 : Vec F S64x4 .f32) : Vec F S2x256x32x128 .f32 :=
  View.canon [⟨rX13, partK (View.ld x1 rS) x2 x3 (View.ld x0 rX10) (View.ld x0 rX11) (View.ld x0 rX12) (View.ld x0 rX13)⟩,
    ⟨rX12, partJ (View.ld x1 rS) x2 x3 (View.ld x0 rX10) (View.ld x0 rX11) (View.ld x0 rX12) (View.ld x0 rX13)⟩,
    ⟨rX11, partI (View.ld x1 rS) x2 x3 (View.ld x0 rX10) (View.ld x0 rX11) (View.ld x0 rX12) (View.ld x0 rX13)⟩,
    ⟨rX10, partR (View.ld x1 rS) x2 x3 (View.ld x0 rX10) (View.ld x0 rX11) (View.ld x0 rX12) (View.ld x0 rX13)⟩,
    ⟨rX03, partK (View.ld x1 rS) x2 x3 (View.ld x0 rX00) (View.ld x0 rX01) (View.ld x0 rX02) (View.ld x0 rX03)⟩,
    ⟨rX02, partJ (View.ld x1 rS) x2 x3 (View.ld x0 rX00) (View.ld x0 rX01) (View.ld x0 rX02) (View.ld x0 rX03)⟩,
    ⟨rX01, partI (View.ld x1 rS) x2 x3 (View.ld x0 rX00) (View.ld x0 rX01) (View.ld x0 rX02) (View.ld x0 rX03)⟩,
    ⟨rX00, partR (View.ld x1 rS) x2 x3 (View.ld x0 rX00) (View.ld x0 rX01) (View.ld x0 rX02) (View.ld x0 rX03)⟩]

section Region
variable (V : (c : Dev nD) → (b : Ref sig .tc) → Buf (Elt F) ((c : Thread nD τ).loc b))

/-- The block of window `w` at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block in its staging buffer at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The eight stores cover the output block. -/
theorem cover1_4 (p0 : Vec F S1x64x32x128 .f32) (p1 : Vec F S1x64x32x128 .f32) (p2 : Vec F S1x64x32x128 .f32) (p3 : Vec F S1x64x32x128 .f32) (p4 : Vec F S1x64x32x128 .f32) (p5 : Vec F S1x64x32x128 .f32) (p6 : Vec F S1x64x32x128 .f32) (p7 : Vec F S1x64x32x128 .f32) (y : S2x256x32x128.Idx) :
    ∃ pc ∈ ([⟨rX13, p0⟩, ⟨rX12, p1⟩, ⟨rX11, p2⟩, ⟨rX10, p3⟩, ⟨rX03, p4⟩, ⟨rX02, p5⟩, ⟨rX01, p6⟩, ⟨rX00, p7⟩] : List (View.Piece (Elt F) S2x256x32x128 .f32)), y ∈ pc.1.set :=
  View.cover_of_tiled [⟨rX13, p0⟩, ⟨rX12, p1⟩, ⟨rX11, p2⟩, ⟨rX10, p3⟩, ⟨rX03, p4⟩, ⟨rX02, p5⟩, ⟨rX01, p6⟩, ⟨rX00, p7⟩] S1x64x32x128.size (by rfl) y

/-! ## The body's triple -/

set_option maxHeartbeats 1324650 in
/-- The body, from the input blocks, leaves `blockOut` of them and the inputs as they were. -/
theorem sound_kernel1 (c : Dev nD) (E : Set ℕ) (i : grid1.Coords) (arg1 : Memref sig .tc .vmem S2x256x32x128 .f32) (harg1 : arg1.IsWhole) (arg2 : Memref sig .tc .vmem S1x64x16 .f32) (harg2 : arg2.IsWhole) (arg3 : Memref sig .tc .vmem S64x10 .f32) (harg3 : arg3.IsWhole) (arg4 : Memref sig .tc .vmem S64x4 .f32) (harg4 : arg4.IsWhole) (arg5 : Memref sig .tc .vmem S2x256x32x128 .f32) (harg5 : arg5.IsWhole)
    (x0 : Vec F S2x256x32x128 .f32) (x1 : Vec F S1x64x16 .f32) (x2 : Vec F S64x10 .f32) (x3 : Vec F S64x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOut x0 x1 x2 x3)) -∗ K ⟨⟩))
      ⊢ wp frame (wpE (defs₀ (F := F)) Variants.none c none) E (cc1_qbn_apply i arg1 harg1 arg2 harg2 arg3 harg3 arg4 harg4 arg5 harg5) K := by
  simp only [cc1_qbn_apply_eq_skeleton]; unfold cc1_qbn_apply_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1_4 _ _ _ _ _ _ _ _)).trans ?_
  rfl

/-! ## The pipeline's proof data -/

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => blockOut (iblk1 V c 0 t) (iblk1 V c 1 t) (iblk1 V c 2 t) (iblk1 V c 3 t)
  Φ _ := Pipeline.ΦA spec1 c
  q _ := fullShare
  owed _ := 0

/-- Its arrays are the region's entry contents. -/
theorem A_eq1 (c : Dev nD) (w : Fin cfg1.W) : (dat1 V c).A w = V c (Pipeline.arrRef spec1 w) := by
  dsimp only [dat1]

/-- What the body leaves in each window. -/
theorem after1_0 (c : Dev nD) (t : Fin cfg1.N) : (dat1 V c).after 0 t = iblk1 V c 0 t := by dsimp only [dat1]
/-- The statistics window keeps its block. -/
theorem after1_1 (c : Dev nD) (t : Fin cfg1.N) : (dat1 V c).after 1 t = iblk1 V c 1 t := by dsimp only [dat1]
/-- The window of gammas keeps its block. -/
theorem after1_2 (c : Dev nD) (t : Fin cfg1.N) : (dat1 V c).after 2 t = iblk1 V c 2 t := by dsimp only [dat1]
/-- The window of offsets keeps its block. -/
theorem after1_3 (c : Dev nD) (t : Fin cfg1.N) : (dat1 V c).after 3 t = iblk1 V c 3 t := by dsimp only [dat1]
/-- The output window is left at the body's value of the four input blocks. -/
theorem after1_4 (c : Dev nD) (t : Fin cfg1.N) : (dat1 V c).after 4 t = blockOut (iblk1 V c 0 t) (iblk1 V c 1 t) (iblk1 V c 2 t) (iblk1 V c 3 t) := by dsimp only [dat1]

/-- What the body finds in each input window. -/
theorem before1_0 (c : Dev nD) (t : Fin cfg1.N) (d) : (dat1 V c).before 0 t d = iblk1 V c 0 t :=
  before1_0_of V (dat1 V c) (A_eq1 V c 0) (after1_0 V c) t d
/-- What the body finds in the statistics window. -/
theorem before1_1 (c : Dev nD) (t : Fin cfg1.N) (d) : (dat1 V c).before 1 t d = iblk1 V c 1 t :=
  before1_1_of V (dat1 V c) (A_eq1 V c 1) (after1_1 V c) t d
/-- What the body finds in the window of gammas. -/
theorem before1_2 (c : Dev nD) (t : Fin cfg1.N) (d) : (dat1 V c).before 2 t d = iblk1 V c 2 t :=
  before1_2_of V (dat1 V c) (A_eq1 V c 2) (after1_2 V c) t d
/-- What the body finds in the window of offsets. -/
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point takes the one to the other. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body. -/
theorem defs₀_row1 (t : Fin cfg1.N) :
    defs₀ (F := F) .tc cfg1.body (cfg1.bodyArgs t (cfg1.slots t)) = bodyAt1 t := by
  unfold defs₀; rw [Defs.onTc_tc]

/-- The library's body obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Own

end
-- ==== Proof.Run.lean ====
/- The run of the whole program at any float instance: the buffer contents at every segment boundary, the two regions
   and the host stretches as segments, and what every run ends with — the result array, the arguments as launched and
   every counter at zero. -/
module

public import proofs.«01_k».proof.Proof.Stats
public import proofs.«01_k».proof.Proof.Apply

@[expose] public section

set_option synthInstance.maxSize 4096
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The argument arrays, as references. -/
abbrev argRefs : List (Ref sig .tc) := [main_arg0, main_arg1, main_arg2, main_arg3, main_arg4, main_arg5, main_arg6, main_arg7, main_arg8, main_arg9, main_arg10, main_arg11]

/-! ## The host stretches -/

/-- The first host stretch allocates no buffer. -/
theorem hostOps0_fresh : (hostOps0 : List (HloOp τ sig (Elt F))).Forall fun op => op.fresh = ∅ := by
  simp only [List.Forall]; repeat' constructor
/-- What the first host stretch writes, in order. -/
abbrev hostOps0_W : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13]
/-- The first host stretch writes only those. -/
theorem hostOps0_writes : (hostOps0 : List (HloOp τ sig (Elt F))).Forall fun op => op.writes ⊆ (hostOps0_W.map (Proc.devRef (τ := τ) .tc)).toFinset :=
  StableHlo.forall_writes_sub_of_map rfl
/-- The first host stretch writes no argument. -/
theorem hostOps0_args : ∀ a ∈ argRefs, a ∉ hostOps0_W := ListAll.forall_mem_of_all_decide (by decide +kernel)

/-- The last host stretch allocates no buffer. -/
theorem hostOps2_fresh : (hostOps2 : List (HloOp τ sig (Elt F))).Forall fun op => op.fresh = ∅ := by
  simp only [List.Forall]; repeat' constructor
/-- What the last host stretch writes. -/
abbrev hostOps2_W : List (Ref sig .tc) := [main_v0]
/-- The last host stretch writes only that. -/
theorem hostOps2_writes : (hostOps2 : List (HloOp τ sig (Elt F))).Forall fun op => op.writes ⊆ (hostOps2_W.map (Proc.devRef (τ := τ) .tc)).toFinset :=
  StableHlo.forall_writes_sub_of_map rfl
/-- The last host stretch writes no argument. -/
theorem hostOps2_args : ∀ a ∈ argRefs, a ∉ hostOps2_W := ListAll.forall_mem_of_all_decide (by decide +kernel)

/-! ## The buffer contents at each segment boundary -/

/-- Core `c`'s buffers at launch. -/
abbrev W0 : Dev nD → Valuation τ sig (Elt F) := fun c b => (s₀ m ρ).mem ((c : Dev nD), b)
/-- An argument starts as launched. -/
theorem W0_args (c : Dev nD) : ∀ a ∈ argRefs, W0 m ρ c (Proc.devRef .tc a) = m ((c : Thread nD τ).loc a) := fun _ _ => rfl
/-- After the first host stretch. -/
abbrev W1 : Dev nD → Valuation τ sig (Elt F) := fun c => StableHlo.after hostOps0 (W0 m ρ c)
/-- A reference the first host stretch does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- An argument is as launched after the first host stretch. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same at the core's references. -/
abbrev V1 : (c : Dev nD) → (b : Ref sig .tc) → Buf (Elt F) ((c : Thread nD τ).loc b) := fun c b => W1 m ρ c b
/-- After the first region: its arrays at what the pipeline leaves, the rest as before. -/
def W2 (c : Dev nD) : Valuation τ sig (Elt F) :=
  Pipeline.withArrays spec0 c (W1 m ρ c) fun w => (dat0 (V1 m ρ) c).arrAt w cfg0.N
/-- An array of the first region is at what the pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- What is no array of the first region keeps its contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is no output array of the first region keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- An argument among the first region's arrays is an input there. -/
theorem argsIn0 : ∀ a ∈ argRefs, ∀ w : Fin cfg0.W, Pipeline.arrRef spec0 w = a → (cfg0.win w).isOut = false :=
  ListAll.forall_mem_of_all_decide (by decide +kernel)
/-- An argument is as launched after the first region. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same at the core's references. -/
abbrev V2 : (c : Dev nD) → (b : Ref sig .tc) → Buf (Elt F) ((c : Thread nD τ).loc b) := fun c b => W2 m ρ c b
/-- After the first region its arrays hold what the pipeline leaves, every other buffer what it held. -/
theorem hF0 (c : Dev nD) (w : Fin cfg0.W) : (dat0 (V1 m ρ) c).arrAt w cfg0.N = V2 m ρ c (Pipeline.arrRef spec0 w) :=
  (W2_arr m ρ c w).symm
/-- What is no array of the first region holds what it held. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region: its arrays at what the pipeline leaves, the rest as before. -/
def W3 (c : Dev nD) : Valuation τ sig (Elt F) :=
  Pipeline.withArrays spec1 c (W2 m ρ c) fun w => (dat1 (V2 m ρ) c).arrAt w cfg1.N
/-- An array of the second region is at what the pipeline leaves. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- What is no array of the second region keeps its contents. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is no output array of the second region keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- An argument among the second region's arrays is an input there. -/
theorem argsIn1 : ∀ a ∈ argRefs, ∀ w : Fin cfg1.W, Pipeline.arrRef spec1 w = a → (cfg1.win w).isOut = false :=
  ListAll.forall_mem_of_all_decide (by decide +kernel)
/-- An argument is as launched after the second region. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same at the core's references. -/
abbrev V3 : (c : Dev nD) → (b : Ref sig .tc) → Buf (Elt F) ((c : Thread nD τ).loc b) := fun c b => W3 m ρ c b
/-- After the second region its arrays hold what the pipeline leaves, every other buffer what it held. -/
theorem hF1 (c : Dev nD) (w : Fin cfg1.W) : (dat1 (V2 m ρ) c).arrAt w cfg1.N = V3 m ρ c (Pipeline.arrRef spec1 w) :=
  (W3_arr m ρ c w).symm
/-- What is no array of the second region holds what it held. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch. -/
abbrev W4 : Dev nD → Valuation τ sig (Elt F) := fun c => StableHlo.after hostOps2 (W3 m ρ c)
/-- A reference the last host stretch does not write keeps its contents. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- An argument is as launched at the end. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched -/

/-- Argument 0 ends as launched. -/
theorem W4_main_arg0 (c : Dev nD) : W4 m ρ c (Proc.devRef .tc main_arg0) = m ((c : Thread nD τ).loc main_arg0) :=
  W4_args m ρ c main_arg0 (by decide)
/-- Argument 1 ends as launched. -/
theorem W4_main_arg1 (c : Dev nD) : W4 m ρ c (Proc.devRef .tc main_arg1) = m ((c : Thread nD τ).loc main_arg1) :=
  W4_args m ρ c main_arg1 (by decide)
/-- Argument 2 ends as launched. -/
theorem W4_main_arg2 (c : Dev nD) : W4 m ρ c (Proc.devRef .tc main_arg2) = m ((c : Thread nD τ).loc main_arg2) :=
  W4_args m ρ c main_arg2 (by decide)
/-- Argument 3 ends as launched. -/
theorem W4_main_arg3 (c : Dev nD) : W4 m ρ c (Proc.devRef .tc main_arg3) = m ((c : Thread nD τ).loc main_arg3) :=
  W4_args m ρ c main_arg3 (by decide)
/-- Argument 4 ends as launched. -/
theorem W4_main_arg4 (c : Dev nD) : W4 m ρ c (Proc.devRef .tc main_arg4) = m ((c : Thread nD τ).loc main_arg4) :=
  W4_args m ρ c main_arg4 (by decide)
/-- Argument 5 ends as launched. -/
theorem W4_main_arg5 (c : Dev nD) : W4 m ρ c (Proc.devRef .tc main_arg5) = m ((c : Thread nD τ).loc main_arg5) :=
  W4_args m ρ c main_arg5 (by decide)
/-- Argument 6 ends as launched. -/
theorem W4_main_arg6 (c : Dev nD) : W4 m ρ c (Proc.devRef .tc main_arg6) = m ((c : Thread nD τ).loc main_arg6) :=
  W4_args m ρ c main_arg6 (by decide)
/-- Argument 7 ends as launched. -/
theorem W4_main_arg7 (c : Dev nD) : W4 m ρ c (Proc.devRef .tc main_arg7) = m ((c : Thread nD τ).loc main_arg7) :=
  W4_args m ρ c main_arg7 (by decide)
/-- Argument 8 ends as launched. -/
theorem W4_main_arg8 (c : Dev nD) : W4 m ρ c (Proc.devRef .tc main_arg8) = m ((c : Thread nD τ).loc main_arg8) :=
  W4_args m ρ c main_arg8 (by decide)
/-- Argument 9 ends as launched. -/
theorem W4_main_arg9 (c : Dev nD) : W4 m ρ c (Proc.devRef .tc main_arg9) = m ((c : Thread nD τ).loc main_arg9) :=
  W4_args m ρ c main_arg9 (by decide)
/-- Argument 10 ends as launched. -/
theorem W4_main_arg10 (c : Dev nD) : W4 m ρ c (Proc.devRef .tc main_arg10) = m ((c : Thread nD τ).loc main_arg10) :=
  W4_args m ρ c main_arg10 (by decide)
/-- Argument 11 ends as launched. -/
theorem W4_main_arg11 (c : Dev nD) : W4 m ρ c (Proc.devRef .tc main_arg11) = m ((c : Thread nD τ).loc main_arg11) :=
  W4_args m ρ c main_arg11 (by decide)

/-! ## The proof data family and the thread state -/

/-- No pipeline has a prefetched table. -/
abbrev adm : (p : Fin 2) → (pcfgs (F := F) p).Adm := fun p => (cfgs p).toPCfg_adm
/-- Each pipeline's proof data, at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of its segments. -/
theorem main_run (c : Dev nD) : main (F := F) c = Pipeline.Seg.run (segs m ρ) := (main_chain c).trans (by chain_rfl)

/-- The core has no unscoped semaphore. -/
theorem no_unscoped : ∀ sm : SemLoc sig, sm.isScoped .tc = true := by decide

set_option backward.isDefEq.respectTransparency.types false in
/-- Every run ends with the result array at the last boundary's contents, the arguments as launched and every counter at zero. -/
theorem run : θ_run defs (onTc (τ := τ) (main (F := F))) ⟨m, fun _ => 0, ρ⟩ (fun r => (∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩), funext fun g => hz g (.inr (no_unscoped g.2))⟩)

end Cert.KernelIdeal.Own

end
-- ==== Proof.Algebra.lean ====
/- The mathematics of quaternion batch normalisation: the whitening weights of a four by four covariance matrix, why
   they are numbers, and why the kernel's affine form and the reference's centred form are the same value. -/
module

public import Idealize.ShloMosaic.PureOps.Ideal
public import Mathlib.Tactic.FieldSimp
public import Mathlib.Tactic.Ring
public import Mathlib.Tactic.Linarith
public import Mathlib.Tactic.Positivity

@[expose] public section

noncomputable section

namespace Cert.Own

open Idealize.ShloMosaic

/-- The ten entries of a symmetric four by four matrix, rows r, i, j, k. -/
structure Mat (α : Type) where
  vr : α
  vi : α
  vj : α
  vk : α
  ri : α
  rj : α
  rk : α
  ij : α
  ik : α
  jk : α

/-- The same entries through a function. -/
def Mat.map {α β : Type} (f : α → β) (m : Mat α) : Mat β :=
  ⟨f m.vr, f m.vi, f m.vj, f m.vk, f m.ri, f m.rj, f m.rk, f m.ij, f m.ik, f m.jk⟩

section Fields
variable {α β : Type} (f : α → β) (m : Mat α)
/-- The first variance of a mapped matrix is the map of the first variance. -/
theorem Mat.map_vr : (m.map f).vr = f m.vr := rfl
/-- The second variance of a mapped matrix is the map of the second variance. -/
theorem Mat.map_vi : (m.map f).vi = f m.vi := rfl
/-- The third variance of a mapped matrix is the map of the third variance. -/
theorem Mat.map_vj : (m.map f).vj = f m.vj := rfl
/-- The fourth variance of a mapped matrix is the map of the fourth variance. -/
theorem Mat.map_vk : (m.map f).vk = f m.vk := rfl
/-- The first-with-second covariance of a mapped matrix is the map of the first-with-second covariance. -/
theorem Mat.map_ri : (m.map f).ri = f m.ri := rfl
/-- The first-with-third covariance of a mapped matrix is the map of the first-with-third covariance. -/
theorem Mat.map_rj : (m.map f).rj = f m.rj := rfl
/-- The first-with-fourth covariance of a mapped matrix is the map of the first-with-fourth covariance. -/
theorem Mat.map_rk : (m.map f).rk = f m.rk := rfl
/-- The second-with-third covariance of a mapped matrix is the map of the second-with-third covariance. -/
theorem Mat.map_ij : (m.map f).ij = f m.ij := rfl
/-- The second-with-fourth covariance of a mapped matrix is the map of the second-with-fourth covariance. -/
theorem Mat.map_ik : (m.map f).ik = f m.ik := rfl
/-- The third-with-fourth covariance of a mapped matrix is the map of the third-with-fourth covariance. -/
theorem Mat.map_jk : (m.map f).jk = f m.jk := rfl
end Fields

/-! ## The weights over the extended reals -/

section Ext
variable (m : Mat EReal)

/-- The ten whitening weights, in the order both programs compute them. -/
def xRR : EReal := Ideal.sqrt m.vr
def xRI : EReal := Ideal.div m.ri (xRR m)
def xII : EReal := Ideal.sqrt (m.vi - xRI m * xRI m)
def xRJ : EReal := Ideal.div m.rj (xRR m)
def xIJ : EReal := Ideal.div (m.ij - xRI m * xRJ m) (xII m)
def xJJ : EReal := Ideal.sqrt (m.vj - (xIJ m * xIJ m + xRJ m * xRJ m))
def xRK : EReal := Ideal.div m.rk (xRR m)
def xIK : EReal := Ideal.div (m.ik - xRI m * xRK m) (xII m)
def xJK : EReal := Ideal.div (m.jk - (xIJ m * xIK m + xRJ m * xRK m)) (xJJ m)
def xKK : EReal := Ideal.sqrt (m.vk - (xJK m * xJK m + xIK m * xIK m + xRK m * xRK m))

/-- One output component as the kernel computes it: the mixed weights times the inputs, plus the offset less the mixed
    weights times the means. -/
def kernelForm (μr μi μj μk g0 g1 g2 g3 β xr xi xj xk : EReal) : EReal :=
  g0 * xRR m * xr + (g0 * xRI m + g1 * xII m) * xi + (g0 * xRJ m + g1 * xIJ m + g2 * xJJ m) * xj
    + (g0 * xRK m + g1 * xIK m + g2 * xJK m + g3 * xKK m) * xk
    + (β - (g0 * xRR m * μr + (g0 * xRI m + g1 * xII m) * μi + (g0 * xRJ m + g1 * xIJ m + g2 * xJJ m) * μj
      + (g0 * xRK m + g1 * xIK m + g2 * xJK m + g3 * xKK m) * μk))

/-- One output component as the reference computes it: the centred inputs weighted, mixed by the gammas, plus the offset. -/
def centredForm (cr ci cj ck g0 g1 g2 g3 β : EReal) : EReal :=
  g0 * (xRR m * cr + xRI m * ci + xRJ m * cj + xRK m * ck)
    + g1 * (xII m * ci + xIJ m * cj + xIK m * ck)
    + g2 * (xJJ m * cj + xJK m * ck)
    + g3 * (xKK m * ck) + β
end Ext

/-! ## The weights over the reals -/

section Real
variable (m : Mat ℝ)

/-- The same weights over the reals. -/
def yRR : ℝ := √m.vr
def yRI : ℝ := m.ri / yRR m
def yII : ℝ := √(m.vi - yRI m * yRI m)
def yRJ : ℝ := m.rj / yRR m
def yIJ : ℝ := (m.ij - yRI m * yRJ m) / yII m
def yJJ : ℝ := √(m.vj - (yIJ m * yIJ m + yRJ m * yRJ m))
def yRK : ℝ := m.rk / yRR m
def yIK : ℝ := (m.ik - yRI m * yRK m) / yII m
def yJK : ℝ := (m.jk - (yIJ m * yIK m + yRJ m * yRK m)) / yJJ m
def yKK : ℝ := √(m.vk - (yJK m * yJK m + yIK m * yIK m + yRK m * yRK m))

/-- The matrix is positive definite. -/
def PosDef : Prop := ∀ x y z w : ℝ, x ≠ 0 ∨ y ≠ 0 ∨ z ≠ 0 ∨ w ≠ 0 →
  0 < m.vr * x * x + m.vi * y * y + m.vj * z * z + m.vk * w * w
    + 2 * (m.ri * x * y + m.rj * x * z + m.rk * x * w + m.ij * y * z + m.ik * y * w + m.jk * z * w)

variable {m} (h : PosDef m)
include h

/-- The first pivot is positive. -/
theorem pivot_r : 0 < m.vr := by simpa using h 1 0 0 0 (by simp)

/-- The first diagonal entry of the factor is not zero. -/
theorem yRR_ne : yRR m ≠ 0 := (Real.sqrt_pos.mpr (pivot_r h)).ne'
/-- The square of the first diagonal entry of the factor is its pivot. -/
theorem yRR_sq : yRR m * yRR m = m.vr := Real.mul_self_sqrt (pivot_r h).le

/-- What is left of the form once the first row is cleared is positive. -/
theorem left_of_r (y z w : ℝ) (hn : y ≠ 0 ∨ z ≠ 0 ∨ w ≠ 0) :
    0 < (m.vi - yRI m * yRI m) * y * y + (m.vj - yRJ m * yRJ m) * z * z + (m.vk - yRK m * yRK m) * w * w
      + 2 * ((m.ij - yRI m * yRJ m) * y * z + (m.ik - yRI m * yRK m) * y * w + (m.jk - yRJ m * yRK m) * z * w) := by
  have hp := h (-(yRI m * y + yRJ m * z + yRK m * w) / yRR m) y z w (Or.inr hn)
  have e := yRR_sq h
  have n := yRR_ne h
  have ei : m.ri = yRI m * yRR m := by unfold yRI; field_simp
  have ej : m.rj = yRJ m * yRR m := by unfold yRJ; field_simp
  have ek : m.rk = yRK m * yRR m := by unfold yRK; field_simp
  rw [ei, ej, ek, ← e] at hp
  generalize yRI m = a at *
  generalize yRJ m = b at *
  generalize yRK m = d at *
  generalize yRR m = s at *
  refine lt_of_lt_of_eq hp ?_
  field_simp
  ring

/-- The second pivot is positive. -/
theorem pivot_i : 0 < m.vi - yRI m * yRI m := by simpa using left_of_r h 1 0 0 (by simp)

/-- The second diagonal entry of the factor is not zero. -/
theorem yII_ne : yII m ≠ 0 := (Real.sqrt_pos.mpr (pivot_i h)).ne'
/-- The square of the second diagonal entry of the factor is its pivot. -/
theorem yII_sq : yII m * yII m = m.vi - yRI m * yRI m := Real.mul_self_sqrt (pivot_i h).le

/-- What is left of the form once the first two rows are cleared is positive. -/
theorem left_of_i (z w : ℝ) (hn : z ≠ 0 ∨ w ≠ 0) :
    0 < (m.vj - (yIJ m * yIJ m + yRJ m * yRJ m)) * z * z + (m.vk - (yIK m * yIK m + yRK m * yRK m)) * w * w
      + 2 * ((m.jk - (yIJ m * yIK m + yRJ m * yRK m)) * z * w) := by
  have hp := left_of_r h (-(yIJ m * z + yIK m * w) / yII m) z w (Or.inr hn)
  have e := yII_sq h
  have n := yII_ne h
  have ej : m.ij - yRI m * yRJ m = yIJ m * yII m := by unfold yIJ; field_simp
  have ek : m.ik - yRI m * yRK m = yIK m * yII m := by unfold yIK; field_simp
  rw [ej, ek, ← e] at hp
  generalize yIJ m = a at *
  generalize yIK m = b at *
  generalize yII m = s at *
  refine lt_of_lt_of_eq hp ?_
  field_simp
  ring

/-- The third pivot is positive. -/
theorem pivot_j : 0 < m.vj - (yIJ m * yIJ m + yRJ m * yRJ m) := by simpa using left_of_i h 1 0 (by simp)

/-- The third diagonal entry of the factor is not zero. -/
theorem yJJ_ne : yJJ m ≠ 0 := (Real.sqrt_pos.mpr (pivot_j h)).ne'
/-- The square of the third diagonal entry of the factor is its pivot. -/
theorem yJJ_sq : yJJ m * yJJ m = m.vj - (yIJ m * yIJ m + yRJ m * yRJ m) := Real.mul_self_sqrt (pivot_j h).le

/-- The last pivot is positive. -/
theorem pivot_k : 0 < m.vk - (yJK m * yJK m + yIK m * yIK m + yRK m * yRK m) := by
  have hp := left_of_i h (-(yJK m) / yJJ m) 1 (Or.inr one_ne_zero)
  have e := yJJ_sq h
  have n := yJJ_ne h
  have ek : m.jk - (yIJ m * yIK m + yRJ m * yRK m) = yJK m * yJJ m := by unfold yJK; field_simp
  rw [ek, ← e] at hp
  refine lt_of_lt_of_eq hp ?_
  field_simp
  ring

end Real

/-! ## The two agree on a positive definite matrix of reals -/

section Agree
variable {m : Mat ℝ} (h : PosDef m)

/-- The root of a real that is not negative is the root of reals. -/
theorem sqrt_real {a : ℝ} (ha : 0 ≤ a) : Ideal.sqrt (a : EReal) = ((√a : ℝ) : EReal) := by
  rw [Ideal.sqrt_coe, if_neg (not_lt.mpr ha)]

/-- Division by a real that is not zero is division of reals. -/
theorem div_real (a : ℝ) {b : ℝ} (hb : b ≠ 0) : Ideal.div (a : EReal) (b : EReal) = ((a / b : ℝ) : EReal) := by
  rw [Ideal.div_coe hb, ← EReal.coe_mul, mul_one_div]

include h

/-- The RR entry of the factor over the extended reals is the one over the reals. -/
theorem xRR_real : xRR (m.map (↑)) = (yRR m : EReal) := by
  exact sqrt_real (pivot_r h).le
/-- The RI entry of the factor over the extended reals is the one over the reals. -/
theorem xRI_real : xRI (m.map (↑)) = (yRI m : EReal) := by
  simp only [xRI, xRR_real h]; exact div_real _ (yRR_ne h)
/-- The RJ entry of the factor over the extended reals is the one over the reals. -/
theorem xRJ_real : xRJ (m.map (↑)) = (yRJ m : EReal) := by
  simp only [xRJ, xRR_real h]; exact div_real _ (yRR_ne h)
/-- The RK entry of the factor over the extended reals is the one over the reals. -/
theorem xRK_real : xRK (m.map (↑)) = (yRK m : EReal) := by
  simp only [xRK, xRR_real h]; exact div_real _ (yRR_ne h)
/-- The II entry of the factor over the extended reals is the one over the reals. -/
theorem xII_real : xII (m.map (↑)) = (yII m : EReal) := by
  simp only [xII, xRI_real h, Mat.map_vi]; norm_cast; exact sqrt_real (pivot_i h).le
/-- The IJ entry of the factor over the extended reals is the one over the reals. -/
theorem xIJ_real : xIJ (m.map (↑)) = (yIJ m : EReal) := by
  simp only [xIJ, xRI_real h, xRJ_real h, xII_real h, Mat.map_ij]; norm_cast; exact div_real _ (yII_ne h)
/-- The IK entry of the factor over the extended reals is the one over the reals. -/
theorem xIK_real : xIK (m.map (↑)) = (yIK m : EReal) := by
  simp only [xIK, xRI_real h, xRK_real h, xII_real h, Mat.map_ik]; norm_cast; exact div_real _ (yII_ne h)
/-- The JJ entry of the factor over the extended reals is the one over the reals. -/
theorem xJJ_real : xJJ (m.map (↑)) = (yJJ m : EReal) := by
  simp only [xJJ, xIJ_real h, xRJ_real h, Mat.map_vj]; norm_cast; exact sqrt_real (pivot_j h).le
/-- The JK entry of the factor over the extended reals is the one over the reals. -/
theorem xJK_real : xJK (m.map (↑)) = (yJK m : EReal) := by
  simp only [xJK, xIJ_real h, xRJ_real h, xIK_real h, xRK_real h, xJJ_real h, Mat.map_jk]; norm_cast
  exact div_real _ (yJJ_ne h)
/-- The KK entry of the factor over the extended reals is the one over the reals. -/
theorem xKK_real : xKK (m.map (↑)) = (yKK m : EReal) := by
  simp only [xKK, xJK_real h, xIK_real h, xRK_real h, Mat.map_vk]; norm_cast; exact sqrt_real (pivot_k h).le

/-- With a positive definite matrix of reals, real inputs, means and gammas and any offset, the kernel's form is the
    reference's. -/
theorem kernelForm_eq (μr μi μj μk g0 g1 g2 g3 xr xi xj xk : ℝ) (β : EReal) :
    kernelForm (m.map (↑)) μr μi μj μk g0 g1 g2 g3 β xr xi xj xk
      = centredForm (m.map (↑)) (xr - μr : ℝ) (xi - μi : ℝ) (xj - μj : ℝ) (xk - μk : ℝ) g0 g1 g2 g3 β := by
  unfold kernelForm centredForm
  rw [xRR_real h, xRI_real h, xRJ_real h, xRK_real h, xII_real h, xIJ_real h, xIK_real h, xJJ_real h, xJK_real h,
    xKK_real h]
  generalize yRR m = a
  generalize yRI m = b
  generalize yRJ m = d
  generalize yRK m = e
  generalize yII m = f
  generalize yIJ m = g
  generalize yIK m = i
  generalize yJJ m = j
  generalize yJK m = k
  generalize yKK m = l
  rw [sub_eq_add_neg β, add_comm β, ← add_assoc]
  congr 1
  norm_cast
  ring
end Agree

/-! ## Means and covariances -/

section Moments
variable {ι : Type} [Fintype ι]

/-- The sum of a product of centred terms, over the number of terms, from the sums of the terms and of the products. -/
theorem cov_eq (N : ℝ) (hN : N = Fintype.card ι) (h0 : N ≠ 0) (a b : ι → ℝ) :
    (∑ i, a i * b i) / N - (∑ i, a i) / N * ((∑ i, b i) / N)
      = (∑ i, (a i - (∑ i, a i) / N) * (b i - (∑ i, b i) / N)) / N := by
  generalize hA : (∑ i, a i) / N = p
  generalize hB : (∑ i, b i) / N = q
  have hA' : ∑ i, a i = p * N := by rw [← hA]; field_simp
  have hB' : ∑ i, b i = q * N := by rw [← hB]; field_simp
  have e : ∑ i, (a i - p) * (b i - q) = ∑ i, a i * b i - p * q * N := by
    have : ∀ i, (a i - p) * (b i - q) = a i * b i - q * a i - p * b i + p * q := fun i => by ring
    simp only [this, Finset.sum_add_distrib, Finset.sum_sub_distrib, ← Finset.mul_sum, hA', hB', Finset.sum_const,
      Finset.card_univ, nsmul_eq_mul, ← hN]
    ring
  rw [e]
  field_simp

/-- The matrix of mean products of four families, with a positive number added on the diagonal. -/
def gram (N ε : ℝ) (r i j k : ι → ℝ) : Mat ℝ where
  vr := (∑ n, r n * r n) / N + ε
  vi := (∑ n, i n * i n) / N + ε
  vj := (∑ n, j n * j n) / N + ε
  vk := (∑ n, k n * k n) / N + ε
  ri := (∑ n, r n * i n) / N
  rj := (∑ n, r n * j n) / N
  rk := (∑ n, r n * k n) / N
  ij := (∑ n, i n * j n) / N
  ik := (∑ n, i n * k n) / N
  jk := (∑ n, j n * k n) / N

/-- That matrix is positive definite. -/
theorem gram_posDef {N ε : ℝ} (hN : 0 < N) (hε : 0 < ε) (r i j k : ι → ℝ) : PosDef (gram N ε r i j k) := by
  intro x y z w hn
  have hs : 0 ≤ (∑ n, (x * r n + y * i n + z * j n + w * k n) ^ 2) / N :=
    div_nonneg (Finset.sum_nonneg fun n _ => sq_nonneg _) hN.le
  have hx := sq_nonneg x
  have hy := sq_nonneg y
  have hz := sq_nonneg z
  have hw := sq_nonneg w
  have hp : 0 < ε * (x ^ 2 + y ^ 2 + z ^ 2 + w ^ 2) := by
    refine mul_pos hε ?_
    rcases hn with hn | hn | hn | hn
    all_goals have := pow_pos (abs_pos.mpr hn) 2; rw [sq_abs] at this; linarith
  refine lt_of_lt_of_eq (add_pos_of_nonneg_of_pos hs hp) ?_
  have e : ∀ n, (x * r n + y * i n + z * j n + w * k n) ^ 2
      = x * x * (r n * r n) + y * y * (i n * i n) + z * z * (j n * j n) + w * w * (k n * k n)
        + 2 * x * y * (r n * i n) + 2 * x * z * (r n * j n) + 2 * x * w * (r n * k n)
        + 2 * y * z * (i n * j n) + 2 * y * w * (i n * k n) + 2 * z * w * (j n * k n) := fun n => by ring
  simp only [e, Finset.sum_add_distrib, ← Finset.mul_sum, gram]
  field_simp
  ring
end Moments

end Cert.Own

end
-- ==== Proof.Common.lean ====
/- Names both sides share: a channel as a component and a channel of it, the entries of one such channel as real numbers,
   the literals of the two programs as real numbers, and their mean and centred values. -/
module

public import proofs.«01_k».proof.Proof.Algebra
public import Idealize.ShloMosaic.Lib.Pointwise

@[expose] public section

noncomputable section

namespace Cert.Own

open Idealize.ShloMosaic

/-- The shape of the input and of the result. -/
abbrev SX : Shape := ⟨4, ![32, 256, 64, 64]⟩

/-- The places of one channel: an image, a row and a column. -/
abbrev Place : Type := Fin 32 × Fin 64 × Fin 64

/-- Channel `c` of component `q`. -/
def chan (q : Fin 4) (c : Fin 64) : Fin 256 := ⟨64 * q.val + c.val, by omega⟩

/-- Every channel is one of those. -/
theorem chan_surj (a : Fin 256) : ∃ q c, chan q c = a :=
  ⟨⟨a.val / 64, by omega⟩, ⟨a.val % 64, by omega⟩, Fin.ext (by show 64 * (a.val / 64) + a.val % 64 = a.val; omega)⟩

/-- The entries of channel `c` of component `q`. -/
def entry (X : SX.Idx → ℝ) (q : Fin 4) (c : Fin 64) (n : Place) : ℝ := X (ix4 n.1 (chan q c) n.2.1 n.2.2)

/-- The number of entries of a channel. -/
def cnt : ℝ := 131072

/-- It is positive. -/
theorem cnt_pos : 0 < cnt := by unfold cnt; norm_num
/-- It is not zero. -/
theorem cnt_ne : cnt ≠ 0 := cnt_pos.ne'
/-- It is the number of places. -/
theorem cnt_card : cnt = Fintype.card Place := by unfold cnt; norm_num [Fintype.card_prod, Fintype.card_fin]

/-- The small constant both programs add to a variance. -/
def eps : ℝ := 10995116 / 1099511627776

/-- It is positive. -/
theorem eps_pos : 0 < eps := by unfold eps; norm_num

/-- The literal of the small constant. -/
theorem ofBits_eps : Ideal.ofBits .f32 0x3727C5AC#32 = (eps : EReal) := by
  simp [Ideal.ofBits, Ideal.ieee, -EReal.coe_mul, eps]; norm_num
/-- The literal of the number of entries. -/
theorem ofBits_cnt : Ideal.ofBits .f32 0x48000000#32 = (cnt : EReal) := by
  simp [Ideal.ofBits, Ideal.ieee, -EReal.coe_mul, cnt]; norm_num
/-- The literal of its inverse. -/
theorem ofBits_inv : Ideal.ofBits .f32 0x37000000#32 = ((1 / cnt : ℝ) : EReal) := by
  simp [Ideal.ofBits, Ideal.ieee, -EReal.coe_mul, cnt]; norm_num
/-- The literal zero. -/
theorem ofBits_zero : Ideal.ofBits .f32 0x00000000#32 = 0 := by
  simp [Ideal.ofBits, Ideal.ieee]
/-- The literal of infinity. -/
theorem ofBits_inf : Ideal.ofBits .f32 0x7F800000#32 = ⊤ := by
  simp [Ideal.ofBits, Ideal.ieee]

/-- The mean of a channel. -/
def mean (X : SX.Idx → ℝ) (q : Fin 4) (c : Fin 64) : ℝ := (∑ n, entry X q c n) / cnt

/-- A channel less its mean. -/
def centred (X : SX.Idx → ℝ) (q : Fin 4) (c : Fin 64) (n : Place) : ℝ := entry X q c n - mean X q c

/-- The covariance matrix of the four components of a channel, with the small constant on the diagonal. -/
def covs (X : SX.Idx → ℝ) (c : Fin 64) : Mat ℝ :=
  gram cnt eps (centred X 0 c) (centred X 1 c) (centred X 2 c) (centred X 3 c)

/-- It is positive definite. -/
theorem covs_posDef (X : SX.Idx → ℝ) (c : Fin 64) : PosDef (covs X c) := gram_posDef cnt_pos eps_pos _ _ _ _

/-- A sum of reals as an extended real. -/
theorem coe_sum {ι : Type} [Fintype ι] (f : ι → ℝ) : ((∑ i, f i : ℝ) : EReal) = ∑ i, (f i : EReal) := by
  exact map_sum (⟨⟨((↑) : ℝ → EReal), EReal.coe_zero⟩, EReal.coe_add⟩ : ℝ →+ EReal) f Finset.univ

/-- The result at a place of channel `c` of a component whose gammas are `g0 … g3`. -/
def outAt (X : SX.Idx → ℝ) (c : Fin 64) (n : Place) (g0 g1 g2 g3 β : EReal) : EReal :=
  centredForm ((covs X c).map (↑)) (centred X 0 c n : ℝ) (centred X 1 c n : ℝ) (centred X 2 c n : ℝ) (centred X 3 c n : ℝ)
    g0 g1 g2 g3 β

/-- The symmetric four by four table of gammas of a channel, from the ten arrays in the order they are passed:
    rr, ii, jj, kk, ri, rj, rk, ij, ik, jk. -/
def table (x1 x2 x3 x4 x5 x6 x7 x8 x9 x10 : (⟨1, ![64]⟩ : Shape).Idx → EReal) (c : Fin 64) : Fin 4 → Fin 4 → EReal :=
  ![![x1 (ix1 c), x5 (ix1 c), x6 (ix1 c), x7 (ix1 c)],
    ![x5 (ix1 c), x2 (ix1 c), x8 (ix1 c), x9 (ix1 c)],
    ![x6 (ix1 c), x8 (ix1 c), x3 (ix1 c), x10 (ix1 c)],
    ![x7 (ix1 c), x9 (ix1 c), x10 (ix1 c), x4 (ix1 c)]]

end Cert.Own

end
-- ==== Proof.StatsValue.lean ====
/- The statistics array at the ideal instance: after the first pallas_call its first fourteen columns are, channel by
   channel, the sums over all places of the four components and of their ten products. -/
module

public import proofs.«01_k».proof.Proof.Stats
public import proofs.«01_k».proof.Proof.Common
public import Idealize.ShloMosaic.Lib.Pointwise
public import Idealize.ShloMosaic.Lib.Pipeline.ValueKit

@[expose] public section

set_option maxRecDepth 16384

noncomputable section

namespace Cert.KernelIdeal.Own

open Cert.KernelIdeal.Gen Cert.Own
open Idealize.ShloMosaic Idealize.ShloMosaic.TcCoe
open Idealize.ShloMosaic.Pipeline (Dat Cfg Window)

/-- What one place gives to the fourteen columns: the four components, then their ten products. -/
def prod14 {α : Type} [Mul α] (a b c d : α) : Fin 14 → α :=
  ![a, b, c, d, a * a, b * b, c * c, d * d, a * b, a * c, a * d, b * c, b * d, c * d]

/-- The sum of a plane, at a channel. -/
theorem planeSum_read (v : FVec Ideal S64x32x128 .f32) (c : Fin 64) (z : Fin 1) :
    planeSum v (ix2 c z) = ∑ u : Fin 32, ∑ l : Fin 128, v (ix3 c u l) := by
  pointwise [planeSum]

/-- One quarter of the channels of one image of a block, at a place. -/
theorem quarter_read (x0 : Vec Ideal S4x256x32x128 .f32) (b : Fin 4) (q : Fin 4) (off : Fin 4 → ℕ)
    (hoff : off = ![b.val, 64 * q.val, 0, 0]) (inb) (c : Fin 64) (u : Fin 32) (l : Fin 128) :
    quarter (View.ld x0 (Rect.unit (s := S4x256x32x128) off S1x64x32x128.size inb)) (ix3 c u l)
      = x0 (ix4 b (chan q c) u l) := by
  subst hoff
  have e : ∀ v : Vec Ideal S1x64x32x128 .f32, quarter v (ix3 c u l) = v (ix4 (0 : Fin 1) c u l) := fun v => by
    pointwise [quarter]
  refine (e _).trans (View.ld_unit_apply_of x0 _ _ _ _ _ fun a => ?_)
  match a with
  | ⟨0, _⟩ => simp
  | ⟨1, _⟩ => simp [chan]
  | ⟨2, _⟩ => simp
  | ⟨3, _⟩ => simp

/-- The fourteen columns of one image. -/
theorem sums14_read (vr vi vj vk : FVec Ideal S64x32x128 .f32) (c : Fin 64) (k : Fin 14) :
    sums14 vr vi vj vk (ix2 c k)
      = ∑ u : Fin 32, ∑ l : Fin 128, prod14 (vr (ix3 c u l)) (vi (ix3 c u l)) (vj (ix3 c u l)) (vk (ix3 c u l)) k := by
  unfold sums14
  refine (concatenate_ofFn_apply (t := S64x14) (s₁ := S64x1) 1 ![planeSum vr, planeSum vi, planeSum vj, planeSum vk, planeSum (mulf vr vr),
    planeSum (mulf vi vi), planeSum (mulf vj vj), planeSum (mulf vk vk), planeSum (mulf vr vi), planeSum (mulf vr vj),
    planeSum (mulf vr vk), planeSum (mulf vi vj), planeSum (mulf vi vk), planeSum (mulf vj vk)] _ rfl 1 rfl (ix2 c k) k ?_
    (ix2 c 0) ?_ ?_).trans ?_
  · show k.val / 1 = k.val; omega
  · show 0 = k.val % 1; omega
  · intro b hb
    match b with
    | ⟨0, _⟩ => rfl
    | ⟨1, _⟩ => exact absurd rfl hb
  · fin_cases k <;> exact planeSum_read _ c 0

/-- The fourteen columns of one image of a block, from its four quarters. -/
theorem image_read (x0 : Vec Ideal S4x256x32x128 .f32) (b : Fin 4) (o0 o1 o2 o3 : Fin 4 → ℕ) (i0 i1 i2 i3)
    (h0 : o0 = ![b.val, 64 * (0 : Fin 4).val, 0, 0]) (h1 : o1 = ![b.val, 64 * (1 : Fin 4).val, 0, 0])
    (h2 : o2 = ![b.val, 64 * (2 : Fin 4).val, 0, 0]) (h3 : o3 = ![b.val, 64 * (3 : Fin 4).val, 0, 0]) (c : Fin 64) (k : Fin 14) :
    sums14 (quarter (View.ld x0 (Rect.unit (s := S4x256x32x128) o0 S1x64x32x128.size i0)))
      (quarter (View.ld x0 (Rect.unit (s := S4x256x32x128) o1 S1x64x32x128.size i1)))
      (quarter (View.ld x0 (Rect.unit (s := S4x256x32x128) o2 S1x64x32x128.size i2)))
      (quarter (View.ld x0 (Rect.unit (s := S4x256x32x128) o3 S1x64x32x128.size i3))) (ix2 c k)
      = ∑ u : Fin 32, ∑ l : Fin 128,
        prod14 (x0 (ix4 b (chan 0 c) u l)) (x0 (ix4 b (chan 1 c) u l)) (x0 (ix4 b (chan 2 c) u l)) (x0 (ix4 b (chan 3 c) u l)) k := by
  rw [sums14_read]
  refine Finset.sum_congr rfl fun u _ => Finset.sum_congr rfl fun l _ => ?_
  rw [quarter_read x0 b 0 o0 h0, quarter_read x0 b 1 o1 h1, quarter_read x0 b 2 o2 h2, quarter_read x0 b 3 o3 h3]

/-- The fourteen columns of a block of four images. -/
theorem blockSums_read (x0 : Vec Ideal S4x256x32x128 .f32) (c : Fin 64) (k : Fin 14) :
    blockSums x0 (ix2 c k) = ∑ b : Fin 4, ∑ u : Fin 32, ∑ l : Fin 128,
      prod14 (x0 (ix4 b (chan 0 c) u l)) (x0 (ix4 b (chan 1 c) u l)) (x0 (ix4 b (chan 2 c) u l)) (x0 (ix4 b (chan 3 c) u l)) k := by
  rw [Fin.sum_univ_four]
  unfold blockSums
  exact congrArg₂ (fun a b : EReal => a + b) (congrArg₂ (fun a b : EReal => a + b) (congrArg₂ (fun a b : EReal => a + b)
    (image_read x0 0 _ _ _ _ _ _ _ _ rfl rfl rfl rfl c k) (image_read x0 1 _ _ _ _ _ _ _ _ rfl rfl rfl rfl c k))
    (image_read x0 2 _ _ _ _ _ _ _ _ rfl rfl rfl rfl c k)) (image_read x0 3 _ _ _ _ _ _ _ _ rfl rfl rfl rfl c k)

/-- The column of the statistics tile that holds one of the fourteen. -/
def col (k : Fin 14) : Fin 16 := ⟨k.val, by omega⟩

/-- The old first fourteen columns, at an index. -/
theorem ldTop_read (prev : Vec Ideal S1x64x16 .f32) (c : Fin 64) (k : Fin 14) :
    View.ld prev rTop (ix3 (0 : Fin 1) c k) = prev (ix3 (0 : Fin 1) c (col k)) := by
  refine View.ld_unit_apply_of prev _ _ _ _ _ fun a => ?_
  match a with
  | ⟨0, _⟩ => simp
  | ⟨1, _⟩ => simp
  | ⟨2, _⟩ => simp [col]

/-- One step adds the block's sums to the first fourteen columns. -/
theorem step_read (x0 : Vec Ideal S4x256x32x128 .f32) (prev : Vec Ideal S1x64x16 .f32) (c : Fin 64) (k : Fin 14) :
    step x0 prev (ix3 (0 : Fin 1) c (col k)) = prev (ix3 (0 : Fin 1) c (col k)) + blockSums x0 (ix2 c k) := by
  have hin : ∀ a : Fin S1x64x16.rank, (![0, 0, 0] : Fin 3 → ℕ) a ≤ (ix3 (0 : Fin 1) c (col k) : S1x64x16.Idx) a
      ∧ ((ix3 (0 : Fin 1) c (col k) : S1x64x16.Idx) a : ℕ) < (![0, 0, 0] : Fin 3 → ℕ) a + S1x64x14.size a := by
    intro a
    have hc := c.isLt
    have hk := k.isLt
    match a with
    | ⟨0, _⟩ => exact ⟨Nat.zero_le _, Nat.one_pos⟩
    | ⟨1, _⟩ => exact ⟨Nat.zero_le _, by show c.val < 0 + 64; omega⟩
    | ⟨2, _⟩ => exact ⟨Nat.zero_le _, by show k.val < 0 + 14; omega⟩
  unfold step VecWindow.put
  rw [dif_pos hin]
  have e : newTop x0 (View.ld prev rTop) (ix3 (0 : Fin 1) c k)
      = prev (ix3 (0 : Fin 1) c (col k)) + blockSums x0 (ix2 c k) := by
    have e1 : ∀ (p : Vec Ideal S1x64x14 .f32) (b : FVec Ideal S64x14 .f32),
        shapeCast S1x64x14 (addf (shapeCast S64x14 p shapeCasts_S1x64x14_S64x14) b) shapeCasts_S64x14_S1x64x14 (ix3 (0 : Fin 1) c k)
          = (p (ix3 (0 : Fin 1) c k) : EReal) + b (ix2 c k) := fun p b => by pointwise []
    refine (e1 _ _).trans ?_
    rw [ldTop_read]
  refine Eq.trans (congrArg (newTop x0 (View.ld prev rTop)) (funext fun a => Fin.ext ?_)) e
  match a with
  | ⟨0, _⟩ => simp [Rect.unitLocal]
  | ⟨1, _⟩ => simp [Rect.unitLocal]
  | ⟨2, _⟩ => simp [Rect.unitLocal, col]

/-- The tile the first point starts from is zero. -/
theorem zero_read (c : Fin 64) (k : Fin 14) : (k0_pay2 (F := Ideal)) (ix3 (0 : Fin 1) c (col k)) = 0 := by
  pointwise [k0_pay2]

/-! ## The accumulation over the grid -/

section Region
variable (V : (c : Dev nD) → (b : Ref sig .tc) → Buf (Elt Ideal) ((c : Thread nD τ).loc b))

/-- The input array the region finds. -/
def inArr (c : Dev nD) : S32x256x32x128.Idx → EReal := V c main_call0_v0

/-- The index map of the input window, decided. -/
theorem idx0 : ∀ t : Fin cfg0.N, win0_0.index t = ![t.val, 0, 0, 0] := (by decide +kernel : ∀ t : Fin grid0.N, _)

/-- The input window's block at point `t` is images `4 t` to `4 t + 3`. -/
theorem block0_read (c : Dev nD) (t : Fin cfg0.N) (ht : t.val < 8) (b : Fin 4) (a : Fin 256) (u : Fin 32) (l : Fin 128) :
    iblk0 V c 0 t (ix4 b a u l) = inArr V c (ix4 (⟨4 * t.val + b.val, by omega⟩ : Fin 32) a u l) := by
  blk_point [iblk0, inArr, idx0 t]

/-- What a point adds to a column. -/
def pointTerm (c : Dev nD) (ch : Fin 64) (t : Fin cfg0.N) (k : Fin 14) : EReal := blockSums (iblk0 V c 0 t) (ix2 ch k)

/-- After the last point a column of the tile is the sum of what every point adds. -/
theorem tile_last (c : Dev nD) (t : Fin cfg0.N) (ht : t.val + 1 = cfg0.N) (ch : Fin 64) (k : Fin 14) :
    tileAt V c t.val t.isLt (ix3 (0 : Fin 1) ch (col k)) = ∑ p : Fin cfg0.N, pointTerm V c ch p k := by
  refine (Pipeline.eq_sum_fin_of_reset_step_apply_last
    (fun n h (k : Fin 14) => (tileAt V c n h (ix3 (0 : Fin 1) ch (col k)) : EReal)) 8 (fun _ => 0) (pointTerm V c ch)
    (fun t h0 k => ?_) (fun t h0 k => ?_) (le_of_eq N_0) t ht k).trans (zero_add _)
  · rw [tileAt_first V c t h0, step_read, zero_read]; rfl
  · rw [tileAt_later V c t h0, step_read]; rfl

/-- The statistics array after the region, at one of the fourteen columns of a channel. -/
def statsAt (c : Dev nD) (ch : Fin 64) (k : Fin 14) : EReal := (dat0 V c).arrAt 1 cfg0.N (ix3 (0 : Fin 1) ch (col k))

/-- It is the sum of what every point adds. -/
theorem stats_arr (c : Dev nD) (ch : Fin 64) (k : Fin 14) :
    statsAt V c ch k = ∑ p : Fin cfg0.N, pointTerm V c ch p k := by
  have h : (dat0 V c).arrAt 1 cfg0.N = (tileAt V c t0_7.val t0_7.isLt) := by
    refine (dat0 V c).arrAt_eq_of_after_last 1 t0_7 (by decide +kernel) _ fun j => ?_
    blk_simp
    rw [after0_1]
  unfold statsAt
  rw [h]
  exact tile_last V c t0_7 (N_0 : cfg0.N = 8).symm ch k

/-- Rows of 128 entries of a plane of 32 are rows of 64 of a plane of 64. -/
theorem sum_plane (F : Fin 32 → Fin 128 → EReal) (g : Fin 64 → Fin 64 → EReal)
    (h : ∀ (u : Fin 32) (l : Fin 128), F u l = g ⟨2 * u.val + l.val / 64, by omega⟩ ⟨l.val % 64, by omega⟩) :
    ∑ u, ∑ l, F u l = ∑ r, ∑ w, g r w := by
  rw [Fin.sum_univ_tiles 32 2 rfl fun r : Fin 64 => ∑ w, g r w]
  refine Finset.sum_congr rfl fun u _ => ?_
  rw [Fin.sum_univ_tiles 2 64 rfl (F u)]
  refine Finset.sum_congr rfl fun s _ => Finset.sum_congr rfl fun w _ => (h u _).trans ?_
  have hw := w.isLt
  exact congrArg₂ g (Fin.ext (by show 2 * u.val + (s.val * 64 + w.val) / 64 = u.val * 2 + s.val; omega))
    (Fin.ext (by show (s.val * 64 + w.val) % 64 = w.val; omega))

/-- What a place of an input gives to the fourteen columns of a channel. -/
def placeTerm (x : SX.Idx → EReal) (ch : Fin 64) (k : Fin 14) (n : Place) : EReal :=
  prod14 (x (ix4 n.1 (chan 0 ch) n.2.1 n.2.2)) (x (ix4 n.1 (chan 1 ch) n.2.1 n.2.2)) (x (ix4 n.1 (chan 2 ch) n.2.1 n.2.2))
    (x (ix4 n.1 (chan 3 ch) n.2.1 n.2.2)) k

/-- The statistics array after the region is a sum over the places of the input, whose rows the region sees in pairs. -/
theorem stats_places (c : Dev nD) (x : SX.Idx → EReal)
    (hx : ∀ (n : Fin 32) (a : Fin 256) (u : Fin 32) (l : Fin 128), inArr V c (ix4 n a u l)
      = x (ix4 n a (⟨2 * u.val + l.val / 64, by omega⟩ : Fin 64) (⟨l.val % 64, by omega⟩ : Fin 64))) (ch : Fin 64) (k : Fin 14) :
    statsAt V c ch k = ∑ n : Place, placeTerm x ch k n := by
  rw [stats_arr, Fintype.sum_prod_type]
  have e : ∀ n : Fin 32, ∑ y : Fin 64 × Fin 64, placeTerm x ch k (n, y) = ∑ r : Fin 64, ∑ w : Fin 64, placeTerm x ch k (n, r, w) :=
    fun n => Fintype.sum_prod_type _
  simp only [e]
  rw [Fin.sum_univ_tiles 8 4 rfl fun n : Fin 32 => ∑ r : Fin 64, ∑ w : Fin 64, placeTerm x ch k (n, r, w)]
  refine Fin.sum_fin_congr fun (t : Fin cfg0.N) => ?_
  have ht : t.val < 8 := lt_of_lt_of_eq t.isLt N_0
  unfold pointTerm
  rw [blockSums_read]
  refine Finset.sum_congr rfl fun b _ => ?_
  refine sum_plane _ _ fun u l => ?_
  have hn : (⟨4 * t.val + b.val, by omega⟩ : Fin 32) = ⟨t.val * 4 + b.val, by omega⟩ := Fin.ext (by show 4 * t.val + b.val = t.val * 4 + b.val; omega)
  rw [block0_read V c t ht, block0_read V c t ht, block0_read V c t ht, block0_read V c t ht, hn, hx, hx, hx, hx]
  rfl

end Region

end Cert.KernelIdeal.Own

end
-- ==== Proof.ApplyValue.lean ====
/- The output array at the ideal instance: what the second pallas_call stores at a place of a channel is the kernel's affine
   form of the moments the statistics tile gives for that channel. -/
module

public import proofs.«01_k».proof.Proof.Apply
public import proofs.«01_k».proof.Proof.StatsValue

@[expose] public section

set_option maxRecDepth 16384

noncomputable section

namespace Cert.KernelIdeal.Own

open Cert.KernelIdeal.Gen Cert.Own
open Idealize.ShloMosaic Idealize.ShloMosaic.TcCoe
open Idealize.ShloMosaic.Pipeline (Dat Cfg Window)

/-! ## The moments and weights of a channel -/

/-- One of the fourteen moments of a channel: the column times the inverse of the number of entries. -/
def mom (s : Vec Ideal S1x64x16 .f32) (c : Fin 64) (k : Fin 14) : EReal :=
  s (ix3 (0 : Fin 1) c (col k)) * Ideal.ofBits .f32 0x37000000#32

/-- The covariance matrix the kernel forms from the moments of a channel. -/
def kMat (s : Vec Ideal S1x64x16 .f32) (c : Fin 64) : Mat EReal where
  vr := mom s c 4 - mom s c 0 * mom s c 0 + Ideal.ofBits .f32 0x3727C5AC#32
  vi := mom s c 5 - mom s c 1 * mom s c 1 + Ideal.ofBits .f32 0x3727C5AC#32
  vj := mom s c 6 - mom s c 2 * mom s c 2 + Ideal.ofBits .f32 0x3727C5AC#32
  vk := mom s c 7 - mom s c 3 * mom s c 3 + Ideal.ofBits .f32 0x3727C5AC#32
  ri := mom s c 8 - mom s c 0 * mom s c 1
  rj := mom s c 9 - mom s c 0 * mom s c 2
  rk := mom s c 10 - mom s c 0 * mom s c 3
  ij := mom s c 11 - mom s c 1 * mom s c 2
  ik := mom s c 12 - mom s c 1 * mom s c 3
  jk := mom s c 13 - mom s c 2 * mom s c 3

/-- A moment column, at a channel. -/
theorem moment_read (s : Vec Ideal S1x64x16 .f32) (c : Fin 64) (k : Fin 14) (o : Fin 2 → ℕ) (ho : o = ![0, k.val]) (h) :
    moment s o h (ix2 c (0 : Fin 1)) = mom s c k := by
  subst ho
  pointwise [moment]
  rfl

section Weights
variable (s : Vec Ideal S1x64x16 .f32) (c : Fin 64)

/-- Moment column 4, at a channel. -/
theorem moment4_read : moment s ![0, 4] slices_S64x16_o0_4_S64x1 (ix2 c (0 : Fin 1)) = mom s c 4 := moment_read s c 4 _ rfl _
/-- Moment column 5, at a channel. -/
theorem moment5_read : moment s ![0, 5] slices_S64x16_o0_5_S64x1 (ix2 c (0 : Fin 1)) = mom s c 5 := moment_read s c 5 _ rfl _
/-- Moment column 6, at a channel. -/
theorem moment6_read : moment s ![0, 6] slices_S64x16_o0_6_S64x1 (ix2 c (0 : Fin 1)) = mom s c 6 := moment_read s c 6 _ rfl _
/-- Moment column 7, at a channel. -/
theorem moment7_read : moment s ![0, 7] slices_S64x16_o0_7_S64x1 (ix2 c (0 : Fin 1)) = mom s c 7 := moment_read s c 7 _ rfl _
/-- Moment column 8, at a channel. -/
theorem moment8_read : moment s ![0, 8] slices_S64x16_o0_8_S64x1 (ix2 c (0 : Fin 1)) = mom s c 8 := moment_read s c 8 _ rfl _
/-- Moment column 9, at a channel. -/
theorem moment9_read : moment s ![0, 9] slices_S64x16_o0_9_S64x1 (ix2 c (0 : Fin 1)) = mom s c 9 := moment_read s c 9 _ rfl _
/-- Moment column 10, at a channel. -/
theorem moment10_read : moment s ![0, 10] slices_S64x16_o0_10_S64x1 (ix2 c (0 : Fin 1)) = mom s c 10 := moment_read s c 10 _ rfl _
/-- Moment column 11, at a channel. -/
theorem moment11_read : moment s ![0, 11] slices_S64x16_o0_11_S64x1 (ix2 c (0 : Fin 1)) = mom s c 11 := moment_read s c 11 _ rfl _
/-- Moment column 12, at a channel. -/
theorem moment12_read : moment s ![0, 12] slices_S64x16_o0_12_S64x1 (ix2 c (0 : Fin 1)) = mom s c 12 := moment_read s c 12 _ rfl _
/-- Moment column 13, at a channel. -/
theorem moment13_read : moment s ![0, 13] slices_S64x16_o0_13_S64x1 (ix2 c (0 : Fin 1)) = mom s c 13 := moment_read s c 13 _ rfl _
/-- The mean of component r, at a channel. -/
theorem meanR_read : meanR s (ix2 c (0 : Fin 1)) = mom s c 0 := moment_read s c 0 _ rfl _
/-- The mean of component i, at a channel. -/
theorem meanI_read : meanI s (ix2 c (0 : Fin 1)) = mom s c 1 := moment_read s c 1 _ rfl _
/-- The mean of component j, at a channel. -/
theorem meanJ_read : meanJ s (ix2 c (0 : Fin 1)) = mom s c 2 := moment_read s c 2 _ rfl _
/-- The mean of component k, at a channel. -/
theorem meanK_read : meanK s (ix2 c (0 : Fin 1)) = mom s c 3 := moment_read s c 3 _ rfl _
/-- The variance of component r, at a channel. -/
theorem varR_read : varR s (ix2 c (0 : Fin 1)) = (kMat s c).vr := by
  show moment s _ _ (ix2 c (0 : Fin 1)) - meanR s (ix2 c (0 : Fin 1)) * meanR s (ix2 c (0 : Fin 1)) + _ = _
  rw [moment4_read, meanR_read]; rfl
/-- The variance of component i, at a channel. -/
theorem varI_read : varI s (ix2 c (0 : Fin 1)) = (kMat s c).vi := by
  show moment s _ _ (ix2 c (0 : Fin 1)) - meanI s (ix2 c (0 : Fin 1)) * meanI s (ix2 c (0 : Fin 1)) + _ = _
  rw [moment5_read, meanI_read]; rfl
/-- The variance of component j, at a channel. -/
theorem varJ_read : varJ s (ix2 c (0 : Fin 1)) = (kMat s c).vj := by
  show moment s _ _ (ix2 c (0 : Fin 1)) - meanJ s (ix2 c (0 : Fin 1)) * meanJ s (ix2 c (0 : Fin 1)) + _ = _
  rw [moment6_read, meanJ_read]; rfl
/-- The variance of component k, at a channel. -/
theorem varK_read : varK s (ix2 c (0 : Fin 1)) = (kMat s c).vk := by
  show moment s _ _ (ix2 c (0 : Fin 1)) - meanK s (ix2 c (0 : Fin 1)) * meanK s (ix2 c (0 : Fin 1)) + _ = _
  rw [moment7_read, meanK_read]; rfl
/-- The covariance of components r and i, at a channel. -/
theorem covRI_read : covRI s (ix2 c (0 : Fin 1)) = (kMat s c).ri := by
  show moment s _ _ (ix2 c (0 : Fin 1)) - meanR s (ix2 c (0 : Fin 1)) * meanI s (ix2 c (0 : Fin 1)) = _
  rw [moment8_read, meanR_read, meanI_read]; rfl
/-- The covariance of components r and j, at a channel. -/
theorem covRJ_read : covRJ s (ix2 c (0 : Fin 1)) = (kMat s c).rj := by
  show moment s _ _ (ix2 c (0 : Fin 1)) - meanR s (ix2 c (0 : Fin 1)) * meanJ s (ix2 c (0 : Fin 1)) = _
  rw [moment9_read, meanR_read, meanJ_read]; rfl
/-- The covariance of components r and k, at a channel. -/
theorem covRK_read : covRK s (ix2 c (0 : Fin 1)) = (kMat s c).rk := by
  show moment s _ _ (ix2 c (0 : Fin 1)) - meanR s (ix2 c (0 : Fin 1)) * meanK s (ix2 c (0 : Fin 1)) = _
  rw [moment10_read, meanR_read, meanK_read]; rfl
/-- The covariance of components i and j, at a channel. -/
theorem covIJ_read : covIJ s (ix2 c (0 : Fin 1)) = (kMat s c).ij := by
  show moment s _ _ (ix2 c (0 : Fin 1)) - meanI s (ix2 c (0 : Fin 1)) * meanJ s (ix2 c (0 : Fin 1)) = _
  rw [moment11_read, meanI_read, meanJ_read]; rfl
/-- The covariance of components i and k, at a channel. -/
theorem covIK_read : covIK s (ix2 c (0 : Fin 1)) = (kMat s c).ik := by
  show moment s _ _ (ix2 c (0 : Fin 1)) - meanI s (ix2 c (0 : Fin 1)) * meanK s (ix2 c (0 : Fin 1)) = _
  rw [moment12_read, meanI_read, meanK_read]; rfl
/-- The covariance of components j and k, at a channel. -/
theorem covJK_read : covJK s (ix2 c (0 : Fin 1)) = (kMat s c).jk := by
  show moment s _ _ (ix2 c (0 : Fin 1)) - meanJ s (ix2 c (0 : Fin 1)) * meanK s (ix2 c (0 : Fin 1)) = _
  rw [moment13_read, meanJ_read, meanK_read]; rfl
/-- The weight rr, at a channel. -/
theorem wRR_read : wRR s (ix2 c (0 : Fin 1)) = xRR (kMat s c) := by
  show Ideal.sqrt (varR s (ix2 c (0 : Fin 1))) = _
  rw [varR_read]; rfl
/-- The weight ri, at a channel. -/
theorem wRI_read : wRI s (ix2 c (0 : Fin 1)) = xRI (kMat s c) := by
  show Ideal.div (covRI s (ix2 c (0 : Fin 1))) (wRR s (ix2 c (0 : Fin 1))) = _
  rw [covRI_read, wRR_read]; rfl
/-- The weight ii, at a channel. -/
theorem wII_read : wII s (ix2 c (0 : Fin 1)) = xII (kMat s c) := by
  show Ideal.sqrt (varI s (ix2 c (0 : Fin 1)) - wRI s (ix2 c (0 : Fin 1)) * wRI s (ix2 c (0 : Fin 1))) = _
  rw [varI_read, wRI_read]; rfl
/-- The weight rj, at a channel. -/
theorem wRJ_read : wRJ s (ix2 c (0 : Fin 1)) = xRJ (kMat s c) := by
  show Ideal.div (covRJ s (ix2 c (0 : Fin 1))) (wRR s (ix2 c (0 : Fin 1))) = _
  rw [covRJ_read, wRR_read]; rfl
/-- The weight ij, at a channel. -/
theorem wIJ_read : wIJ s (ix2 c (0 : Fin 1)) = xIJ (kMat s c) := by
  show Ideal.div (covIJ s (ix2 c (0 : Fin 1)) - wRI s (ix2 c (0 : Fin 1)) * wRJ s (ix2 c (0 : Fin 1))) (wII s (ix2 c (0 : Fin 1))) = _
  rw [covIJ_read, wRI_read, wRJ_read, wII_read]; rfl
/-- The weight jj, at a channel. -/
theorem wJJ_read : wJJ s (ix2 c (0 : Fin 1)) = xJJ (kMat s c) := by
  show Ideal.sqrt (varJ s (ix2 c (0 : Fin 1)) - (wIJ s (ix2 c (0 : Fin 1)) * wIJ s (ix2 c (0 : Fin 1)) + wRJ s (ix2 c (0 : Fin 1)) * wRJ s (ix2 c (0 : Fin 1)))) = _
  rw [varJ_read, wIJ_read, wRJ_read]; rfl
/-- The weight rk, at a channel. -/
theorem wRK_read : wRK s (ix2 c (0 : Fin 1)) = xRK (kMat s c) := by
  show Ideal.div (covRK s (ix2 c (0 : Fin 1))) (wRR s (ix2 c (0 : Fin 1))) = _
  rw [covRK_read, wRR_read]; rfl
/-- The weight ik, at a channel. -/
theorem wIK_read : wIK s (ix2 c (0 : Fin 1)) = xIK (kMat s c) := by
  show Ideal.div (covIK s (ix2 c (0 : Fin 1)) - wRI s (ix2 c (0 : Fin 1)) * wRK s (ix2 c (0 : Fin 1))) (wII s (ix2 c (0 : Fin 1))) = _
  rw [covIK_read, wRI_read, wRK_read, wII_read]; rfl
/-- The weight jk, at a channel. -/
theorem wJK_read : wJK s (ix2 c (0 : Fin 1)) = xJK (kMat s c) := by
  show Ideal.div (covJK s (ix2 c (0 : Fin 1)) - (wIJ s (ix2 c (0 : Fin 1)) * wIK s (ix2 c (0 : Fin 1)) + wRJ s (ix2 c (0 : Fin 1)) * wRK s (ix2 c (0 : Fin 1)))) (wJJ s (ix2 c (0 : Fin 1))) = _
  rw [covJK_read, wIJ_read, wIK_read, wRJ_read, wRK_read, wJJ_read]; rfl
/-- The weight kk, at a channel. -/
theorem wKK_read : wKK s (ix2 c (0 : Fin 1)) = xKK (kMat s c) := by
  show Ideal.sqrt (varK s (ix2 c (0 : Fin 1)) - (wJK s (ix2 c (0 : Fin 1)) * wJK s (ix2 c (0 : Fin 1)) + wIK s (ix2 c (0 : Fin 1)) * wIK s (ix2 c (0 : Fin 1)) + wRK s (ix2 c (0 : Fin 1)) * wRK s (ix2 c (0 : Fin 1)))) = _
  rw [varK_read, wJK_read, wIK_read, wRK_read]; rfl

/-- The coefficients of one output component, at a channel. -/
theorem coefR_read (g0 : FVec Ideal S64x1 .f32) : coefR s g0 (ix2 c (0 : Fin 1)) = g0 (ix2 c (0 : Fin 1)) * xRR (kMat s c) := by
  rw [← wRR_read]; rfl
/-- The coefficient of the second component, at a channel. -/
theorem coefI_read (g0 g1 : FVec Ideal S64x1 .f32) : coefI s g0 g1 (ix2 c (0 : Fin 1))
    = g0 (ix2 c (0 : Fin 1)) * xRI (kMat s c) + g1 (ix2 c (0 : Fin 1)) * xII (kMat s c) := by
  rw [← wRI_read, ← wII_read]; rfl
/-- The coefficient of the third component, at a channel. -/
theorem coefJ_read (g0 g1 g2 : FVec Ideal S64x1 .f32) : coefJ s g0 g1 g2 (ix2 c (0 : Fin 1))
    = g0 (ix2 c (0 : Fin 1)) * xRJ (kMat s c) + g1 (ix2 c (0 : Fin 1)) * xIJ (kMat s c) + g2 (ix2 c (0 : Fin 1)) * xJJ (kMat s c) := by
  rw [← wRJ_read, ← wIJ_read, ← wJJ_read]; rfl
/-- The coefficient of the fourth component, at a channel. -/
theorem coefK_read (g0 g1 g2 g3 : FVec Ideal S64x1 .f32) : coefK s g0 g1 g2 g3 (ix2 c (0 : Fin 1))
    = g0 (ix2 c (0 : Fin 1)) * xRK (kMat s c) + g1 (ix2 c (0 : Fin 1)) * xIK (kMat s c) + g2 (ix2 c (0 : Fin 1)) * xJK (kMat s c)
      + g3 (ix2 c (0 : Fin 1)) * xKK (kMat s c) := by
  rw [← wRK_read, ← wIK_read, ← wJK_read, ← wKK_read]; rfl

/-- The affine combination, at a place of a channel. -/
theorem affine_read (a0 a1 a2 a3 : FVec Ideal S64x1 .f32) (beta : Vec Ideal S64x1 .f32) (xr xi xj xk : Vec Ideal S1x64x32x128 .f32)
    (u : Fin 32) (l : Fin 128) :
    affine s a0 a1 a2 a3 beta xr xi xj xk (ix4 (0 : Fin 1) c u l)
      = a0 (ix2 c (0 : Fin 1)) * xr (ix4 (0 : Fin 1) c u l) + a1 (ix2 c (0 : Fin 1)) * xi (ix4 (0 : Fin 1) c u l)
        + a2 (ix2 c (0 : Fin 1)) * xj (ix4 (0 : Fin 1) c u l) + a3 (ix2 c (0 : Fin 1)) * xk (ix4 (0 : Fin 1) c u l)
        + ((beta (ix2 c (0 : Fin 1)) : EReal) - (a0 (ix2 c (0 : Fin 1)) * meanR s (ix2 c (0 : Fin 1)) + a1 (ix2 c (0 : Fin 1)) * meanI s (ix2 c (0 : Fin 1))
          + a2 (ix2 c (0 : Fin 1)) * meanJ s (ix2 c (0 : Fin 1)) + a3 (ix2 c (0 : Fin 1)) * meanK s (ix2 c (0 : Fin 1)))) := by
  pointwise [affine, spread, plane, gcol]

/-- The affine combination with the coefficients of four gammas is the kernel's form. -/
theorem form_read (g0 g1 g2 g3 : Vec Ideal S64x1 .f32) (beta : Vec Ideal S64x1 .f32) (xr xi xj xk : Vec Ideal S1x64x32x128 .f32)
    (u : Fin 32) (l : Fin 128) :
    affine s (coefR s (gcol g0)) (coefI s (gcol g0) (gcol g1)) (coefJ s (gcol g0) (gcol g1) (gcol g2))
        (coefK s (gcol g0) (gcol g1) (gcol g2) (gcol g3)) beta xr xi xj xk (ix4 (0 : Fin 1) c u l)
      = kernelForm (kMat s c) (mom s c 0) (mom s c 1) (mom s c 2) (mom s c 3) (g0 (ix2 c (0 : Fin 1))) (g1 (ix2 c (0 : Fin 1)))
        (g2 (ix2 c (0 : Fin 1))) (g3 (ix2 c (0 : Fin 1))) (beta (ix2 c (0 : Fin 1))) (xr (ix4 (0 : Fin 1) c u l))
        (xi (ix4 (0 : Fin 1) c u l)) (xj (ix4 (0 : Fin 1) c u l)) (xk (ix4 (0 : Fin 1) c u l)) := by
  have e : ∀ v : Vec Ideal S64x1 .f32, gcol v (ix2 c (0 : Fin 1)) = v (ix2 c (0 : Fin 1)) := fun v => by pointwise [gcol]
  rw [affine_read, coefR_read, coefI_read, coefJ_read, coefK_read, meanR_read, meanI_read, meanJ_read, meanK_read, e, e, e, e]
  rfl

end Weights

/-! ## The loads -/

/-- A column of the gammas, at a channel. -/
theorem ldG_read (g : Vec Ideal S64x10 .f32) (k : Fin 10) (o : Fin 2 → ℕ) (ho : o = ![0, k.val]) (inb) (c : Fin 64) :
    View.ld g (Rect.unit (s := S64x10) o S64x1.size inb) (ix2 c (0 : Fin 1)) = g (ix2 c k) := by
  subst ho
  refine View.ld_unit_apply_of g _ _ _ _ _ fun a => ?_
  match a with
  | ⟨0, _⟩ => simp
  | ⟨1, _⟩ => simp

/-- A column of the offsets, at a channel. -/
theorem ldB_read (bt : Vec Ideal S64x4 .f32) (k : Fin 4) (o : Fin 2 → ℕ) (ho : o = ![0, k.val]) (inb) (c : Fin 64) :
    View.ld bt (Rect.unit (s := S64x4) o S64x1.size inb) (ix2 c (0 : Fin 1)) = bt (ix2 c k) := by
  subst ho
  refine View.ld_unit_apply_of bt _ _ _ _ _ fun a => ?_
  match a with
  | ⟨0, _⟩ => simp
  | ⟨1, _⟩ => simp

/-- A quarter of an image of the block, at a place. -/
theorem ldX_read (x0 : Vec Ideal S2x256x32x128 .f32) (b : Fin 2) (q : Fin 4) (o : Fin 4 → ℕ) (ho : o = ![b.val, 64 * q.val, 0, 0])
    (inb) (c : Fin 64) (u : Fin 32) (l : Fin 128) :
    View.ld x0 (Rect.unit (s := S2x256x32x128) o S1x64x32x128.size inb) (ix4 (0 : Fin 1) c u l) = x0 (ix4 b (chan q c) u l) := by
  subst ho
  refine View.ld_unit_apply_of x0 _ _ _ _ _ fun a => ?_
  match a with
  | ⟨0, _⟩ => simp
  | ⟨1, _⟩ => simp [chan]
  | ⟨2, _⟩ => simp
  | ⟨3, _⟩ => simp

/-- The load of the whole statistics tile. -/
theorem ldS_read (s : Vec Ideal S1x64x16 .f32) : View.ld s rS = s := by
  funext i
  refine View.ld_unit_apply_of s _ _ _ i i fun a => ?_
  match a with
  | ⟨0, _⟩ => simp
  | ⟨1, _⟩ => simp
  | ⟨2, _⟩ => simp

/-! ## The block -/

/-- The columns of the table of gammas an output component takes. -/
def gidx : Fin 4 → Fin 4 → Fin 10 := ![![0, 1, 2, 3], ![1, 4, 5, 6], ![2, 5, 7, 8], ![3, 6, 8, 9]]

/-- What the body stores at a place of channel `c` of component `q` of image `b` of the block. -/
def valOut (x0 : Vec Ideal S2x256x32x128 .f32) (s : Vec Ideal S1x64x16 .f32) (g : Vec Ideal S64x10 .f32) (bt : Vec Ideal S64x4 .f32)
    (b : Fin 2) (q : Fin 4) (c : Fin 64) (u : Fin 32) (l : Fin 128) : EReal :=
  kernelForm (kMat s c) (mom s c 0) (mom s c 1) (mom s c 2) (mom s c 3) (g (ix2 c (gidx q 0))) (g (ix2 c (gidx q 1)))
    (g (ix2 c (gidx q 2))) (g (ix2 c (gidx q 3))) (bt (ix2 c q)) (x0 (ix4 b (chan 0 c) u l)) (x0 (ix4 b (chan 1 c) u l))
    (x0 (ix4 b (chan 2 c) u l)) (x0 (ix4 b (chan 3 c) u l))

section Pieces
variable (x0 : Vec Ideal S2x256x32x128 .f32) (s : Vec Ideal S1x64x16 .f32) (g : Vec Ideal S64x10 .f32) (bt : Vec Ideal S64x4 .f32)
  (c : Fin 64) (u : Fin 32) (l : Fin 128)

/-- Column 0 of the gammas, at a channel. -/
theorem ldG0_read : View.ld g rG0 (ix2 c (0 : Fin 1)) = g (ix2 c 0) := ldG_read g 0 _ rfl _ c
/-- Column 1 of the gammas, at a channel. -/
theorem ldG1_read : View.ld g rG1 (ix2 c (0 : Fin 1)) = g (ix2 c 1) := ldG_read g 1 _ rfl _ c
/-- Column 2 of the gammas, at a channel. -/
theorem ldG2_read : View.ld g rG2 (ix2 c (0 : Fin 1)) = g (ix2 c 2) := ldG_read g 2 _ rfl _ c
/-- Column 3 of the gammas, at a channel. -/
theorem ldG3_read : View.ld g rG3 (ix2 c (0 : Fin 1)) = g (ix2 c 3) := ldG_read g 3 _ rfl _ c
/-- Column 4 of the gammas, at a channel. -/
theorem ldG4_read : View.ld g rG4 (ix2 c (0 : Fin 1)) = g (ix2 c 4) := ldG_read g 4 _ rfl _ c
/-- Column 5 of the gammas, at a channel. -/
theorem ldG5_read : View.ld g rG5 (ix2 c (0 : Fin 1)) = g (ix2 c 5) := ldG_read g 5 _ rfl _ c
/-- Column 6 of the gammas, at a channel. -/
theorem ldG6_read : View.ld g rG6 (ix2 c (0 : Fin 1)) = g (ix2 c 6) := ldG_read g 6 _ rfl _ c
/-- Column 7 of the gammas, at a channel. -/
theorem ldG7_read : View.ld g rG7 (ix2 c (0 : Fin 1)) = g (ix2 c 7) := ldG_read g 7 _ rfl _ c
/-- Column 8 of the gammas, at a channel. -/
theorem ldG8_read : View.ld g rG8 (ix2 c (0 : Fin 1)) = g (ix2 c 8) := ldG_read g 8 _ rfl _ c
/-- Column 9 of the gammas, at a channel. -/
theorem ldG9_read : View.ld g rG9 (ix2 c (0 : Fin 1)) = g (ix2 c 9) := ldG_read g 9 _ rfl _ c
/-- Column 0 of the offsets, at a channel. -/
theorem ldB0_read : View.ld bt rB0 (ix2 c (0 : Fin 1)) = bt (ix2 c 0) := ldB_read bt 0 _ rfl _ c
/-- Column 1 of the offsets, at a channel. -/
theorem ldB1_read : View.ld bt rB1 (ix2 c (0 : Fin 1)) = bt (ix2 c 1) := ldB_read bt 1 _ rfl _ c
/-- Column 2 of the offsets, at a channel. -/
theorem ldB2_read : View.ld bt rB2 (ix2 c (0 : Fin 1)) = bt (ix2 c 2) := ldB_read bt 2 _ rfl _ c
/-- Column 3 of the offsets, at a channel. -/
theorem ldB3_read : View.ld bt rB3 (ix2 c (0 : Fin 1)) = bt (ix2 c 3) := ldB_read bt 3 _ rfl _ c
/-- Quarter 0 of image 0 of the block, at a place. -/
theorem ldX00_read : View.ld x0 rX00 (ix4 (0 : Fin 1) c u l) = x0 (ix4 0 (chan 0 c) u l) := ldX_read x0 0 0 _ rfl _ c u l
/-- Quarter 1 of image 0 of the block, at a place. -/
theorem ldX01_read : View.ld x0 rX01 (ix4 (0 : Fin 1) c u l) = x0 (ix4 0 (chan 1 c) u l) := ldX_read x0 0 1 _ rfl _ c u l
/-- Quarter 2 of image 0 of the block, at a place. -/
theorem ldX02_read : View.ld x0 rX02 (ix4 (0 : Fin 1) c u l) = x0 (ix4 0 (chan 2 c) u l) := ldX_read x0 0 2 _ rfl _ c u l
/-- Quarter 3 of image 0 of the block, at a place. -/
theorem ldX03_read : View.ld x0 rX03 (ix4 (0 : Fin 1) c u l) = x0 (ix4 0 (chan 3 c) u l) := ldX_read x0 0 3 _ rfl _ c u l
/-- Quarter 0 of image 1 of the block, at a place. -/
theorem ldX10_read : View.ld x0 rX10 (ix4 (0 : Fin 1) c u l) = x0 (ix4 1 (chan 0 c) u l) := ldX_read x0 1 0 _ rfl _ c u l
/-- Quarter 1 of image 1 of the block, at a place. -/
theorem ldX11_read : View.ld x0 rX11 (ix4 (0 : Fin 1) c u l) = x0 (ix4 1 (chan 1 c) u l) := ldX_read x0 1 1 _ rfl _ c u l
/-- Quarter 2 of image 1 of the block, at a place. -/
theorem ldX12_read : View.ld x0 rX12 (ix4 (0 : Fin 1) c u l) = x0 (ix4 1 (chan 2 c) u l) := ldX_read x0 1 2 _ rfl _ c u l
/-- Quarter 3 of image 1 of the block, at a place. -/
theorem ldX13_read : View.ld x0 rX13 (ix4 (0 : Fin 1) c u l) = x0 (ix4 1 (chan 3 c) u l) := ldX_read x0 1 3 _ rfl _ c u l

/-- What the body stores for component r of image 0 of the block, at a place of a channel. -/
theorem piece0R_read : partR (View.ld s rS) g bt (View.ld x0 rX00) (View.ld x0 rX01) (View.ld x0 rX02) (View.ld x0 rX03)
    (ix4 (0 : Fin 1) c u l) = valOut x0 s g bt 0 0 c u l := by
  unfold partR
  rw [form_read, ldS_read, ldG0_read, ldG1_read, ldG2_read, ldG3_read, ldB0_read,
    ldX00_read, ldX01_read, ldX02_read, ldX03_read]
  rfl
/-- What the body stores for component i of image 0 of the block, at a place of a channel. -/
theorem piece0I_read : partI (View.ld s rS) g bt (View.ld x0 rX00) (View.ld x0 rX01) (View.ld x0 rX02) (View.ld x0 rX03)
    (ix4 (0 : Fin 1) c u l) = valOut x0 s g bt 0 1 c u l := by
  unfold partI
  rw [form_read, ldS_read, ldG1_read, ldG4_read, ldG5_read, ldG6_read, ldB1_read,
    ldX00_read, ldX01_read, ldX02_read, ldX03_read]
  rfl
/-- What the body stores for component j of image 0 of the block, at a place of a channel. -/
theorem piece0J_read : partJ (View.ld s rS) g bt (View.ld x0 rX00) (View.ld x0 rX01) (View.ld x0 rX02) (View.ld x0 rX03)
    (ix4 (0 : Fin 1) c u l) = valOut x0 s g bt 0 2 c u l := by
  unfold partJ
  rw [form_read, ldS_read, ldG2_read, ldG5_read, ldG7_read, ldG8_read, ldB2_read,
    ldX00_read, ldX01_read, ldX02_read, ldX03_read]
  rfl
/-- What the body stores for component k of image 0 of the block, at a place of a channel. -/
theorem piece0K_read : partK (View.ld s rS) g bt (View.ld x0 rX00) (View.ld x0 rX01) (View.ld x0 rX02) (View.ld x0 rX03)
    (ix4 (0 : Fin 1) c u l) = valOut x0 s g bt 0 3 c u l := by
  unfold partK
  rw [form_read, ldS_read, ldG3_read, ldG6_read, ldG8_read, ldG9_read, ldB3_read,
    ldX00_read, ldX01_read, ldX02_read, ldX03_read]
  rfl
/-- What the body stores for component r of image 1 of the block, at a place of a channel. -/
theorem piece1R_read : partR (View.ld s rS) g bt (View.ld x0 rX10) (View.ld x0 rX11) (View.ld x0 rX12) (View.ld x0 rX13)
    (ix4 (0 : Fin 1) c u l) = valOut x0 s g bt 1 0 c u l := by
  unfold partR
  rw [form_read, ldS_read, ldG0_read, ldG1_read, ldG2_read, ldG3_read, ldB0_read,
    ldX10_read, ldX11_read, ldX12_read, ldX13_read]
  rfl
/-- What the body stores for component i of image 1 of the block, at a place of a channel. -/
theorem piece1I_read : partI (View.ld s rS) g bt (View.ld x0 rX10) (View.ld x0 rX11) (View.ld x0 rX12) (View.ld x0 rX13)
    (ix4 (0 : Fin 1) c u l) = valOut x0 s g bt 1 1 c u l := by
  unfold partI
  rw [form_read, ldS_read, ldG1_read, ldG4_read, ldG5_read, ldG6_read, ldB1_read,
    ldX10_read, ldX11_read, ldX12_read, ldX13_read]
  rfl
/-- What the body stores for component j of image 1 of the block, at a place of a channel. -/
theorem piece1J_read : partJ (View.ld s rS) g bt (View.ld x0 rX10) (View.ld x0 rX11) (View.ld x0 rX12) (View.ld x0 rX13)
    (ix4 (0 : Fin 1) c u l) = valOut x0 s g bt 1 2 c u l := by
  unfold partJ
  rw [form_read, ldS_read, ldG2_read, ldG5_read, ldG7_read, ldG8_read, ldB2_read,
    ldX10_read, ldX11_read, ldX12_read, ldX13_read]
  rfl
/-- What the body stores for component k of image 1 of the block, at a place of a channel. -/
theorem piece1K_read : partK (View.ld s rS) g bt (View.ld x0 rX10) (View.ld x0 rX11) (View.ld x0 rX12) (View.ld x0 rX13)
    (ix4 (0 : Fin 1) c u l) = valOut x0 s g bt 1 3 c u l := by
  unfold partK
  rw [form_read, ldS_read, ldG3_read, ldG6_read, ldG8_read, ldG9_read, ldB3_read,
    ldX10_read, ldX11_read, ldX12_read, ldX13_read]
  rfl

/-- A piece at offset `(b', 64 q')` that holds channel `c` of component `q` of image `b` is the piece of that image and component. -/
theorem piece_at (b : Fin 2) (q : Fin 4) (b' : Fin 2) (q' : Fin 4) (w : Vec Ideal S1x64x32x128 .f32)
    (hw : ∀ (c : Fin 64) (u : Fin 32) (l : Fin 128), w (ix4 (0 : Fin 1) c u l) = valOut x0 s g bt b' q' c u l)
    (off : Fin 4 → ℕ) (ho : off = ![b'.val, 64 * q'.val, 0, 0]) :
    View.TileAt (Val := Elt Ideal) (S := S2x256x32x128) (e := .f32) (ix4 b (chan q c) u l) off S1x64x32x128.size w (valOut x0 s g bt b q c u l) := by
  subst ho
  intro x hx
  have h0 : b.val = b'.val + (x 0).val := hx 0
  have h1 : 64 * q.val + c.val = 64 * q'.val + (x 1).val := hx 1
  have h2 : u.val = 0 + (x 2).val := hx 2
  have h3 : l.val = 0 + (x 3).val := hx 3
  have l0 : (x 0).val < 1 := (x 0).isLt
  have l1 : (x 1).val < 64 := (x 1).isLt
  have lc := c.isLt
  obtain rfl : b = b' := Fin.ext (by omega)
  obtain rfl : q = q' := Fin.ext (by omega)
  rw [← hw]
  refine congrArg w (funext fun a => Fin.ext ?_)
  match a with
  | ⟨0, _⟩ => show (x 0).val = 0; omega
  | ⟨1, _⟩ => show (x 1).val = c.val; omega
  | ⟨2, _⟩ => show (x 2).val = u.val; omega
  | ⟨3, _⟩ => show (x 3).val = l.val; omega

/-- The output block at a place of channel `c` of component `q` of image `b`. -/
theorem blockOut_read (b : Fin 2) (q : Fin 4) : blockOut x0 s g bt (ix4 b (chan q c) u l) = valOut x0 s g bt b q c u l := by
  unfold blockOut
  refine View.canon_eq_of_allAt _ _ _ (cover1_4 _ _ _ _ _ _ _ _ _) ?_
  refine View.allAt_cons_unit _ _ _ _ _ (piece_at x0 s g bt c u l b q 1 3 _ (fun c u l => piece1K_read x0 s g bt c u l) _ rfl) ?_
  refine View.allAt_cons_unit _ _ _ _ _ (piece_at x0 s g bt c u l b q 1 2 _ (fun c u l => piece1J_read x0 s g bt c u l) _ rfl) ?_
  refine View.allAt_cons_unit _ _ _ _ _ (piece_at x0 s g bt c u l b q 1 1 _ (fun c u l => piece1I_read x0 s g bt c u l) _ rfl) ?_
  refine View.allAt_cons_unit _ _ _ _ _ (piece_at x0 s g bt c u l b q 1 0 _ (fun c u l => piece1R_read x0 s g bt c u l) _ rfl) ?_
  refine View.allAt_cons_unit _ _ _ _ _ (piece_at x0 s g bt c u l b q 0 3 _ (fun c u l => piece0K_read x0 s g bt c u l) _ rfl) ?_
  refine View.allAt_cons_unit _ _ _ _ _ (piece_at x0 s g bt c u l b q 0 2 _ (fun c u l => piece0J_read x0 s g bt c u l) _ rfl) ?_
  refine View.allAt_cons_unit _ _ _ _ _ (piece_at x0 s g bt c u l b q 0 1 _ (fun c u l => piece0I_read x0 s g bt c u l) _ rfl) ?_
  refine View.allAt_cons_unit _ _ _ _ _ (piece_at x0 s g bt c u l b q 0 0 _ (fun c u l => piece0R_read x0 s g bt c u l) _ rfl) ?_
  exact View.allAt_nil _ _

end Pieces

end Cert.KernelIdeal.Own

end
-- ==== Proof.Final.lean ====
/- The result of the kernel's program at the ideal instance, entry by entry: the two arrays the regions leave, the host's
   reshapes and stacks around them, and the value at a place of a channel when the input and the gammas are numbers. -/
module

public import proofs.«01_k».proof.Proof.Run
public import proofs.«01_k».proof.Proof.ApplyValue
public import Idealize.ShloMosaic.Lib.StableHlo.RunClose

@[expose] public section

set_option maxRecDepth 16384

noncomputable section

namespace Cert.KernelIdeal.Own

open Cert.KernelIdeal.Gen Cert.Own
open Idealize.ShloMosaic Idealize.ShloMosaic.TcCoe
open Idealize.ShloMosaic.Pipeline (Dat Cfg Window)

/-! ## The array of the second region -/

section Region
variable (V : (c : Dev nD) → (b : Ref sig .tc) → Buf (Elt Ideal) ((c : Thread nD τ).loc b))

/-- The statistics, the table of gammas and the table of offsets the region finds. -/
def stArr (c : Dev nD) : Vec Ideal S1x64x16 .f32 := V c main_call0_v14
def gArr (c : Dev nD) : Vec Ideal S64x10 .f32 := V c main_call0_v11
def bArr (c : Dev nD) : Vec Ideal S64x4 .f32 := V c main_call0_v13

/-- The index maps of the windows, decided. -/
theorem idx1 : ∀ t : Fin cfg1.N, win1_0.index t = ![t.val, 0, 0, 0] ∧ win1_1.index t = ![0, 0, 0] ∧ win1_2.index t = ![0, 0]
    ∧ win1_3.index t = ![0, 0] ∧ win1_4.index t = ![t.val, 0, 0, 0] := (by decide +kernel : ∀ t : Fin grid1.N, _)

/-- The input window's block at point `t` is images `2 t` and `2 t + 1`. -/
theorem block1_0_read (c : Dev nD) (t : Fin cfg1.N) (ht : t.val < 16) (b : Fin 2) (a : Fin 256) (u : Fin 32) (l : Fin 128) :
    iblk1 V c 0 t (ix4 b a u l) = inArr V c (ix4 (⟨2 * t.val + b.val, by omega⟩ : Fin 32) a u l) := by
  blk_point [iblk1, inArr, idx1 t]

/-- The other three input windows' blocks are their whole arrays. -/
theorem block1_1_read (c : Dev nD) (t : Fin cfg1.N) : iblk1 V c 1 t = stArr V c := by
  funext y
  blk_point [iblk1, stArr, idx1 t]
/-- The window of gammas holds the whole table. -/
theorem block1_2_read (c : Dev nD) (t : Fin cfg1.N) : iblk1 V c 2 t = gArr V c := by
  funext y
  blk_point [iblk1, gArr, idx1 t]
/-- The window of offsets holds the whole table. -/
theorem block1_3_read (c : Dev nD) (t : Fin cfg1.N) : iblk1 V c 3 t = bArr V c := by
  funext y
  blk_point [iblk1, bArr, idx1 t]

/-- The value of the output array at channel `c` of component `q` of image `n`, from the arrays the region finds. -/
def outVal (A : S32x256x32x128.Idx → EReal) (s : Vec Ideal S1x64x16 .f32) (g : Vec Ideal S64x10 .f32) (bt : Vec Ideal S64x4 .f32)
    (n : Fin 32) (q : Fin 4) (c : Fin 64) (u : Fin 32) (l : Fin 128) : EReal :=
  kernelForm (kMat s c) (mom s c 0) (mom s c 1) (mom s c 2) (mom s c 3) (g (ix2 c (gidx q 0))) (g (ix2 c (gidx q 1)))
    (g (ix2 c (gidx q 2))) (g (ix2 c (gidx q 3))) (bt (ix2 c q)) (A (ix4 n (chan 0 c) u l)) (A (ix4 n (chan 1 c) u l))
    (A (ix4 n (chan 2 c) u l)) (A (ix4 n (chan 3 c) u l))

/-- The output array as a function of its index. -/
def outArr (c : Dev nD) : S32x256x32x128.Idx → EReal := fun i =>
  outVal (inArr V c) (stArr V c) (gArr V c) (bArr V c) (i 0) ⟨(i 1).val / 64, by have h : (i 1).val < 256 := (i 1).isLt; omega⟩
    ⟨(i 1).val % 64, by omega⟩ (i 2) (i 3)

/-- The block the body leaves at point `t`, at an index, is the output array at images `2 t` and `2 t + 1`. -/
theorem point1 (c : Dev nD) (t : Fin cfg1.N) (ht : t.val < 16) (b : Fin 2) (a : Fin 256) (u : Fin 32) (l : Fin 128) :
    blockOut (iblk1 V c 0 t) (iblk1 V c 1 t) (iblk1 V c 2 t) (iblk1 V c 3 t) (ix4 b a u l)
      = outArr V c (ix4 (⟨2 * t.val + b.val, by omega⟩ : Fin 32) a u l) := by
  obtain ⟨q, ch, rfl⟩ := chan_surj a
  have hc := ch.isLt
  have e1 : (⟨(64 * q.val + ch.val) / 64, by omega⟩ : Fin 4) = q := Fin.ext (by show (64 * q.val + ch.val) / 64 = q.val; omega)
  have e2 : (⟨(64 * q.val + ch.val) % 64, by omega⟩ : Fin 64) = ch := Fin.ext (by show (64 * q.val + ch.val) % 64 = ch.val; omega)
  rw [blockOut_read, block1_1_read, block1_2_read, block1_3_read]
  unfold valOut
  rw [block1_0_read V c t ht, block1_0_read V c t ht, block1_0_read V c t ht, block1_0_read V c t ht]
  exact (congrArg₂ (fun q ch => outVal (inArr V c) (stArr V c) (gArr V c) (bArr V c) _ q ch u l) e1 e2).symm

/-- The output array after the region. -/
theorem apply_arr (c : Dev nD) : (dat1 V c).arrAt 4 cfg1.N = outArr V c := by
  refine (dat1 V c).arrAt_eq_of_covers 4 (outArr V c) (by decide +kernel) fun t hf y => ?_
  have ht : t.val < 16 := lt_of_lt_of_eq t.isLt N_1
  blk_simp
  rw [after1_4]
  refine (congrArg (blockOut (iblk1 V c 0 t) (iblk1 V c 1 t) (iblk1 V c 2 t) (iblk1 V c 3 t)) (eq_ix4 (y : S2x256x32x128.Idx))).trans
    ((point1 V c t ht _ _ _ _).trans (congrArg (outArr V c) ?_))
  blk_ext [idx1 t]

end Region

/-! ## The host's stretches -/

section Host
variable (m : (ℓ : Loc nD τ sig) → Buf (Elt Ideal) ℓ) (ρ : Dev nD → PrngReg) (c : Dev nD)

/-- The launch contents of the arguments. -/
abbrev inX : SX.Idx → EReal := m ((c : Thread nD τ).loc main_arg0)
abbrev inG1 : S64.Idx → EReal := m ((c : Thread nD τ).loc main_arg1)
abbrev inG2 : S64.Idx → EReal := m ((c : Thread nD τ).loc main_arg2)
abbrev inG3 : S64.Idx → EReal := m ((c : Thread nD τ).loc main_arg3)
abbrev inG4 : S64.Idx → EReal := m ((c : Thread nD τ).loc main_arg4)
abbrev inG5 : S64.Idx → EReal := m ((c : Thread nD τ).loc main_arg5)
abbrev inG6 : S64.Idx → EReal := m ((c : Thread nD τ).loc main_arg6)
abbrev inG7 : S64.Idx → EReal := m ((c : Thread nD τ).loc main_arg7)
abbrev inG8 : S64.Idx → EReal := m ((c : Thread nD τ).loc main_arg8)
abbrev inG9 : S64.Idx → EReal := m ((c : Thread nD τ).loc main_arg9)
abbrev inG10 : S64.Idx → EReal := m ((c : Thread nD τ).loc main_arg10)
abbrev inB : S256.Idx → EReal := m ((c : Thread nD τ).loc main_arg11)

/-- The reshaped input. -/
theorem W1_v0 : W1 m ρ c (Proc.devRef .tc main_call0_v0) = shapeCast S32x256x32x128 (inX m c) shapeCasts_S32x256x64x64_S32x256x32x128 := by
  after_results
  try rfl

/-- A gamma as a column. -/
abbrev gcol1 (g : S64.Idx → EReal) : S64x1.Idx → EReal := broadcastInDim S64x1 ![0] bcast_S64_S64x1_0 g

/-- The table of gammas: ten of them side by side. -/
theorem W1_v11 : W1 m ρ c (Proc.devRef .tc main_call0_v11) = concatenate S64x10 1 [⟨S64x1, gcol1 (inG1 m c)⟩, ⟨S64x1, gcol1 (inG5 m c)⟩, ⟨S64x1, gcol1 (inG6 m c)⟩, ⟨S64x1, gcol1 (inG7 m c)⟩, ⟨S64x1, gcol1 (inG2 m c)⟩, ⟨S64x1, gcol1 (inG8 m c)⟩, ⟨S64x1, gcol1 (inG9 m c)⟩, ⟨S64x1, gcol1 (inG3 m c)⟩, ⟨S64x1, gcol1 (inG10 m c)⟩, ⟨S64x1, gcol1 (inG4 m c)⟩]
    concatenates_S64x1_S64x1_S64x1_S64x1_S64x1_S64x1_S64x1_S64x1_S64x1_S64x1_S64x10_d1 := by
  after_results_entrywise (rounds := 1) []

/-- The table of offsets. -/
theorem W1_v13 : W1 m ρ c (Proc.devRef .tc main_call0_v13)
    = transpose S64x4 [1, 0] (shapeCast S4x64 (inB m c) shapeCasts_S256_S4x64) transposes_S4x64_S64x4_1_0 := by
  after_results
  try rfl

/-- The result is the output array reshaped. -/
theorem W4_v0 : W4 m ρ c (Proc.devRef .tc main_v0)
    = shapeCast S32x256x64x64 (W3 m ρ c (Proc.devRef .tc main_call0_v15) : S32x256x32x128.Idx → EReal) shapeCasts_S32x256x32x128_S32x256x64x64 := by
  after_results
  try rfl

/-! ### The same at an index -/

/-- The reshaped input at an index. -/
theorem in_read (n : Fin 32) (a : Fin 256) (u : Fin 32) (l : Fin 128) : inArr (V1 m ρ) c (ix4 n a u l)
    = inX m c (ix4 n a (⟨2 * u.val + l.val / 64, by omega⟩ : Fin 64) (⟨l.val % 64, by omega⟩ : Fin 64)) := by
  have e : ∀ x : SX.Idx → EReal, shapeCast S32x256x32x128 x shapeCasts_S32x256x64x64_S32x256x32x128 (ix4 n a u l)
      = x (ix4 n a (⟨2 * u.val + l.val / 64, by omega⟩ : Fin 64) (⟨l.val % 64, by omega⟩ : Fin 64)) := fun x => by
    pointwise []
    exact congrArg x (congrArg (fun r : Fin 64 => ix4 n a r (⟨l.val % 64, by omega⟩ : Fin 64)) (Fin.ext (by show u.val * 2 + l.val / 64 = 2 * u.val + l.val / 64; omega)))
  exact (congrFun (W1_v0 m ρ c) _).trans (e _)

/-- The table of gammas at a channel and a column. -/
theorem gammas_read (ch : Fin 64) (k : Fin 10) : (W1 m ρ c (Proc.devRef .tc main_call0_v11) : S64x10.Idx → EReal) (ix2 ch k)
    = ![inG1 m c, inG5 m c, inG6 m c, inG7 m c, inG2 m c, inG8 m c, inG9 m c, inG3 m c, inG10 m c, inG4 m c] k (ix1 ch) := by
  have e : ∀ g : S64.Idx → EReal, gcol1 g (ix2 ch (0 : Fin 1)) = g (ix1 ch) := fun g => by pointwise []
  refine (congrFun (W1_v11 m ρ c) _).trans ?_
  refine (concatenate_ofFn_apply (t := S64x10) (s₁ := S64x1) 1 ![gcol1 (inG1 m c), gcol1 (inG5 m c), gcol1 (inG6 m c), gcol1 (inG7 m c),
    gcol1 (inG2 m c), gcol1 (inG8 m c), gcol1 (inG9 m c), gcol1 (inG3 m c), gcol1 (inG10 m c), gcol1 (inG4 m c)] _ rfl 1 rfl
    (ix2 ch k) k ?_ (ix2 ch 0) ?_ ?_).trans ?_
  · show k.val / 1 = k.val; omega
  · show 0 = k.val % 1; omega
  · intro b hb
    match b with
    | ⟨0, _⟩ => rfl
    | ⟨1, _⟩ => exact absurd rfl hb
  · fin_cases k <;> exact e _

/-- The table of offsets at a channel of a component. -/
theorem offsets_read (ch : Fin 64) (q : Fin 4) : (W1 m ρ c (Proc.devRef .tc main_call0_v13) : S64x4.Idx → EReal) (ix2 ch q)
    = inB m c (ix1 (chan q ch)) := by
  have e : ∀ x : S256.Idx → EReal, transpose S64x4 [1, 0] (shapeCast S4x64 x shapeCasts_S256_S4x64) transposes_S4x64_S64x4_1_0 (ix2 ch q)
      = x (ix1 (chan q ch)) := fun x => by
    pointwise []
    exact congrArg x (congrArg ix1 (Fin.ext (by show q.val * 64 + ch.val = 64 * q.val + ch.val; omega)))
  exact (congrFun (W1_v13 m ρ c) _).trans (e _)

/-- The result at an index. -/
theorem result_read (n : Fin 32) (a : Fin 256) (r w : Fin 64) : (W4 m ρ c (Proc.devRef .tc main_v0) : SX.Idx → EReal) (ix4 n a r w)
    = (W3 m ρ c (Proc.devRef .tc main_call0_v15) : S32x256x32x128.Idx → EReal)
      (ix4 n a (⟨r.val / 2, by omega⟩ : Fin 32) (⟨r.val % 2 * 64 + w.val, by omega⟩ : Fin 128)) := by
  have e : ∀ x : S32x256x32x128.Idx → EReal, shapeCast S32x256x64x64 x shapeCasts_S32x256x32x128_S32x256x64x64 (ix4 n a r w)
      = x (ix4 n a (⟨r.val / 2, by omega⟩ : Fin 32) (⟨r.val % 2 * 64 + w.val, by omega⟩ : Fin 128)) := fun x => by
    pointwise []
  exact (congrFun (W4_v0 m ρ c) _).trans (e _)

/-! ### What the second region finds -/

/-- The second region finds the input as the first host stretch left it. -/
theorem in_second : inArr (V2 m ρ) c = inArr (V1 m ρ) c := W2_of m ρ c main_call0_v0 (by decide)
/-- The second region finds the table of gammas as the first host stretch left it. -/
theorem gammas_second : gArr (V2 m ρ) c = W1 m ρ c (Proc.devRef .tc main_call0_v11) := W2_of m ρ c main_call0_v11 (by decide)
/-- The second region finds the table of offsets as the first host stretch left it. -/
theorem offsets_second : bArr (V2 m ρ) c = W1 m ρ c (Proc.devRef .tc main_call0_v13) := W2_of m ρ c main_call0_v13 (by decide)
/-- The second region finds the statistics the first region left: sums over the places of a channel. -/
theorem stats_second (ch : Fin 64) (k : Fin 14) : stArr (V2 m ρ) c (ix3 (0 : Fin 1) ch (col k)) = ∑ n : Place, placeTerm (inX m c) ch k n :=
  (congrFun (W2_arr m ρ c 1) _).trans (stats_places (V1 m ρ) c (inX m c) (in_read m ρ c) ch k)
/-- The second region leaves its output array at the values stated. -/
theorem out_second : W3 m ρ c (Proc.devRef .tc main_call0_v15) = outArr (V2 m ρ) c :=
  (W3_arr m ρ c 4).trans (apply_arr (V2 m ρ) c)

/-! ### With a real input -/

section Real
variable (X : SX.Idx → ℝ) (hx : ∀ i, inX m c i = (X i : EReal))

/-- The sums over the places of a channel of its four components and their ten products, over the reals. -/
def sumR (X : SX.Idx → ℝ) (ch : Fin 64) (k : Fin 14) : ℝ :=
  ∑ n : Place, prod14 (entry X 0 ch n) (entry X 1 ch n) (entry X 2 ch n) (entry X 3 ch n) k

/-- The four components and ten products of reals are reals. -/
theorem prod14_real (a b d e : ℝ) (k : Fin 14) : prod14 (a : EReal) b d e k = ((prod14 a b d e k : ℝ) : EReal) := by
  fin_cases k <;> first | rfl | exact (EReal.coe_mul _ _).symm

include hx in
/-- Each moment the second region forms is the sum over the number of entries. -/
theorem mom_real (ch : Fin 64) (k : Fin 14) : mom (stArr (V2 m ρ) c) ch k = ((sumR X ch k / cnt : ℝ) : EReal) := by
  unfold mom
  rw [stats_second, ofBits_inv, div_eq_mul_one_div (sumR X ch k), EReal.coe_mul]
  refine congrArg (· * ((1 / cnt : ℝ) : EReal)) ?_
  unfold sumR
  rw [coe_sum]
  refine Finset.sum_congr rfl fun n _ => ?_
  unfold placeTerm
  rw [hx, hx, hx, hx]
  exact prod14_real _ _ _ _ k

/-- The moment of a product less the product of the means is the mean of the product of the centred components. -/
theorem cov_real (q q' : Fin 4) (ch : Fin 64) : (∑ n, entry X q ch n * entry X q' ch n) / cnt - mean X q ch * mean X q' ch
    = (∑ n, centred X q ch n * centred X q' ch n) / cnt :=
  cov_eq cnt cnt_card cnt_ne (entry X q ch) (entry X q' ch)

include hx in
/-- The covariance matrix the second region forms is the one of the centred components. -/
theorem kMat_real (ch : Fin 64) : kMat (stArr (V2 m ρ) c) ch = (covs X ch).map (↑) := by
  unfold kMat
  simp only [mom_real m ρ c X hx, ofBits_eps]
  unfold Mat.map covs gram
  simp only [← cov_real]
  norm_cast

/-- THE KERNEL'S RESULT at a place of a channel of a component, with a real input and real gammas: the centred form. -/
theorem result_real (hx : ∀ i, inX m c i = (X i : EReal))
    (hg : ∀ (ch : Fin 64) (q p : Fin 4), ∃ r : ℝ, table (inG1 m c) (inG2 m c) (inG3 m c) (inG4 m c) (inG5 m c) (inG6 m c) (inG7 m c)
      (inG8 m c) (inG9 m c) (inG10 m c) ch q p = (r : EReal)) (q : Fin 4) (ch : Fin 64) (n : Place) :
    (W4 m ρ c (Proc.devRef .tc main_v0) : SX.Idx → EReal) (ix4 n.1 (chan q ch) n.2.1 n.2.2)
      = outAt X ch n (table (inG1 m c) (inG2 m c) (inG3 m c) (inG4 m c) (inG5 m c) (inG6 m c) (inG7 m c) (inG8 m c) (inG9 m c) (inG10 m c) ch q 0)
        (table (inG1 m c) (inG2 m c) (inG3 m c) (inG4 m c) (inG5 m c) (inG6 m c) (inG7 m c) (inG8 m c) (inG9 m c) (inG10 m c) ch q 1)
        (table (inG1 m c) (inG2 m c) (inG3 m c) (inG4 m c) (inG5 m c) (inG6 m c) (inG7 m c) (inG8 m c) (inG9 m c) (inG10 m c) ch q 2)
        (table (inG1 m c) (inG2 m c) (inG3 m c) (inG4 m c) (inG5 m c) (inG6 m c) (inG7 m c) (inG8 m c) (inG9 m c) (inG10 m c) ch q 3)
        (inB m c (ix1 (chan q ch))) := by
  obtain ⟨i, r, w⟩ := n
  have hr := r.isLt
  have hw := w.isLt
  have hc := ch.isLt
  have e1 : (⟨(64 * q.val + ch.val) / 64, by omega⟩ : Fin 4) = q := Fin.ext (by show (64 * q.val + ch.val) / 64 = q.val; omega)
  have e2 : (⟨(64 * q.val + ch.val) % 64, by omega⟩ : Fin 64) = ch := Fin.ext (by show (64 * q.val + ch.val) % 64 = ch.val; omega)
  -- the input at the place, through the pairing of rows and back
  have ex : ∀ a : Fin 256, inArr (V2 m ρ) c (ix4 i a (⟨r.val / 2, by omega⟩ : Fin 32) (⟨r.val % 2 * 64 + w.val, by omega⟩ : Fin 128))
      = (X (ix4 i a r w) : EReal) := fun a => by
    rw [in_second, in_read, hx]
    refine congrArg (fun j => ((X j : ℝ) : EReal)) (congrArg₂ (fun r w : Fin 64 => ix4 i a r w) (Fin.ext ?_) (Fin.ext ?_))
    · show 2 * (r.val / 2) + (r.val % 2 * 64 + w.val) / 64 = r.val; omega
    · show (r.val % 2 * 64 + w.val) % 64 = w.val; omega
  -- the gammas of the component
  have eg : ∀ p : Fin 4, gArr (V2 m ρ) c (ix2 ch (gidx q p)) = table (inG1 m c) (inG2 m c) (inG3 m c) (inG4 m c) (inG5 m c) (inG6 m c)
      (inG7 m c) (inG8 m c) (inG9 m c) (inG10 m c) ch q p := fun p => by
    rw [gammas_second]
    refine (gammas_read m ρ c ch _).trans ?_
    fin_cases q <;> fin_cases p <;> rfl
  have eb : bArr (V2 m ρ) c (ix2 ch q) = inB m c (ix1 (chan q ch)) := by
    rw [offsets_second]; exact offsets_read m ρ c ch q
  have eo : (W4 m ρ c (Proc.devRef .tc main_v0) : SX.Idx → EReal) (ix4 i (chan q ch) r w)
      = outVal (inArr (V2 m ρ) c) (stArr (V2 m ρ) c) (gArr (V2 m ρ) c) (bArr (V2 m ρ) c) i q ch
        (⟨r.val / 2, by omega⟩ : Fin 32) (⟨r.val % 2 * 64 + w.val, by omega⟩ : Fin 128) := by
    rw [result_read, out_second]
    exact congrArg₂ (fun q ch => outVal (inArr (V2 m ρ) c) (stArr (V2 m ρ) c) (gArr (V2 m ρ) c) (bArr (V2 m ρ) c) i q ch
        (⟨r.val / 2, by omega⟩ : Fin 32) (⟨r.val % 2 * 64 + w.val, by omega⟩ : Fin 128)) e1 e2
  refine eo.trans ?_
  unfold outVal
  rw [ex, ex, ex, ex, eg, eg, eg, eg, eb, kMat_real m ρ c X hx, mom_real m ρ c X hx, mom_real m ρ c X hx, mom_real m ρ c X hx,
    mom_real m ρ c X hx]
  obtain ⟨g0, h0⟩ := hg ch q 0
  obtain ⟨g1, h1⟩ := hg ch q 1
  obtain ⟨g2, h2⟩ := hg ch q 2
  obtain ⟨g3, h3⟩ := hg ch q 3
  rw [h0, h1, h2, h3]
  exact kernelForm_eq (covs_posDef X ch) _ _ _ _ g0 g1 g2 g3 _ _ _ _ _

end Real

end Host

end Cert.KernelIdeal.Own

end
-- ==== Proof.Reference.lean ====
/- The reference read at a place: over real inputs its means, covariances and weights are those of `Common`, and its
   result is the centred form. -/
module

public import proofs.«01_k».proof.Proof.Gen.ReferenceIdeal.Read
public import proofs.«01_k».proof.Proof.Common
public import Idealize.ShloMosaic.Lib.IdealHost

@[expose] public section

set_option maxRecDepth 16384

noncomputable section

namespace Cert.ReferenceIdeal.Own

open Cert.ReferenceIdeal Cert.ReferenceIdeal.Gen Cert.ReferenceIdeal.Read Cert.Own Idealize.ShloMosaic

/-- The input as the reference takes it. -/
abbrev Inp : Type := (⟨S32x256x64x64, .f32⟩ : BufTy).Contents (Elt Ideal)

/-- The indices of a component that a channel index keeps are the places of that channel. -/
theorem fiber_channel (h : S32x64x64x64.ReducesTo [0, 2, 3] S64) (j : S64.Idx) (i : S32x64x64x64.Idx) :
    h.drop i = j ↔ ∃ k : Place, ix4 k.1 (j 0) k.2.1 k.2.2 = i := by
  constructor
  · intro e
    refine ⟨(i 0, i 2, i 3), ?_⟩
    funext a; apply Fin.ext
    match a with
    | ⟨0, _⟩ => rfl
    | ⟨1, _⟩ => exact (congrArg Fin.val (congrFun e 0)).symm
    | ⟨2, _⟩ => rfl
    | ⟨3, _⟩ => rfl
  · rintro ⟨k, rfl⟩
    funext b
    apply Fin.ext
    match b with
    | ⟨0, _⟩ => rfl

/-- A host sum along axes is the sum over any family that lists the indices which drop to the result's. -/
theorem sum_family {s t : Shape} {axes : List (Fin s.rank)} (h : s.ReducesTo axes t) (y : s.Idx → EReal) (z : EReal) (j : t.Idx)
    {κ : Type} [Fintype κ] (g : κ → s.Idx) (hg : Function.Injective g) (hp : ∀ i, h.drop i = j ↔ ∃ k, g k = i) :
    Ideal.hostReduceAdd h y z j = z + ∑ k, y (g k) := by
  unfold Ideal.hostReduceAdd
  rw [Finset.sum_filter_eq_sum_of_fiber _ g hg hp]

/-- The host's sum over images, rows and columns, at a channel. -/
theorem sum_channel (h : S32x64x64x64.ReducesTo [0, 2, 3] S64) (y : S32x64x64x64.Idx → EReal) (z : EReal) (j : S64.Idx) :
    Ideal.hostReduceAdd h y z j = z + ∑ k : Place, y (ix4 k.1 (j 0) k.2.1 k.2.2) :=
  sum_family h y z j (fun k : Place => ix4 k.1 (j 0) k.2.1 k.2.2)
    (fun _ _ e => Prod.ext (congrFun e 0) (Prod.ext (congrFun e 2) (congrFun e 3))) (fiber_channel h j)

/-- The reference's mean of a component whose entries are real: the sum over the places, over their number. -/
theorem mean_read (y : FVec Ideal S32x64x64x64 .f32) (Y : Fin 64 → Place → ℝ)
    (hy : ∀ c (n : Place), y (ix4 n.1 c n.2.1 n.2.2) = (Y c n : EReal)) (j : S1x64x1x1.Idx) :
    Host.divf (broadcastInDim S1x64x1x1 ![1] bcast_S64_S1x64x1x1_1
        (Host.reduceAdd y (constant S_ .f32 0x00000000#32) reducesTo_S32x64x64x64_S64_d0_2_3 h_S_))
      (broadcastInDim S1x64x1x1 ![] bcast_S_S1x64x1x1 (constant (F := Ideal) S_ .f32 0x48000000#32)) j
      = (((∑ n, Y (j 1) n) / cnt : ℝ) : EReal) := by
  have e : ∀ k : Place, y (ix4 k.1 (j 1) k.2.1 k.2.2) = (Y (j 1) k : EReal) := fun k => hy (j 1) k
  refine Eq.trans (b := Ideal.div (Ideal.hostReduceAdd reducesTo_S32x64x64x64_S64_d0_2_3 y
    (Ideal.ofBits .f32 0x00000000#32) (ix1 (j 1))) (Ideal.ofBits .f32 0x48000000#32)) ?_ ?_
  · pointwise
  · rw [sum_channel, ofBits_zero, zero_add, ofBits_cnt]
    show Ideal.div (∑ k : Place, y (ix4 k.1 (j 1) k.2.1 k.2.2)) _ = _
    simp only [e]
    rw [← coe_sum, div_real _ cnt_ne]

section Input
variable (x0 : Inp) (X : SX.Idx → ℝ) (hx : ∀ i, x0 i = (X i : EReal))

include hx

/-- Component r of the input. -/
theorem entry_0 (c : Fin 64) (n : Place) : val_main_v0 (F := Ideal) x0 (ix4 n.1 c n.2.1 n.2.2) = (entry X 0 c n : EReal) := by
  rw [val_main_v0_apply, hx]
  refine congrArg (fun i => (X i : EReal)) (funext fun a => Fin.ext ?_)
  match a with
  | ⟨0, _⟩ => rfl
  | ⟨1, _⟩ => show c.val = 64 * 0 + c.val; omega
  | ⟨2, _⟩ => rfl
  | ⟨3, _⟩ => rfl
/-- Its mean. -/
theorem mean_0 (j : S1x64x1x1.Idx) : val_main_v7 (F := Ideal) x0 j = (mean X 0 (j 1) : EReal) :=
  mean_read (val_main_v0 (F := Ideal) x0) (entry X 0) (entry_0 x0 X hx) j
/-- It less its mean. -/
theorem centred_0 (i : S32x64x64x64.Idx) : val_main_v21 (F := Ideal) x0 i = (centred X 0 (i 1) (i 0, i 2, i 3) : EReal) := by
  have e : val_main_v0 (F := Ideal) x0 i = (entry X 0 (i 1) (i 0, i 2, i 3) : EReal) :=
    (congrArg (val_main_v0 (F := Ideal) x0) (eq_ix4 i)).trans (entry_0 x0 X hx (i 1) (i 0, i 2, i 3))
  rw [val_main_v21_apply, val_main_v20_apply, mean_0 x0 X hx, e]
  exact (EReal.coe_sub _ _).symm

/-- Component i of the input. -/
theorem entry_1 (c : Fin 64) (n : Place) : val_main_v1 (F := Ideal) x0 (ix4 n.1 c n.2.1 n.2.2) = (entry X 1 c n : EReal) := by
  rw [val_main_v1_apply, hx]
  refine congrArg (fun i => (X i : EReal)) (funext fun a => Fin.ext ?_)
  match a with
  | ⟨0, _⟩ => rfl
  | ⟨1, _⟩ => show 64 + c.val = 64 * 1 + c.val; omega
  | ⟨2, _⟩ => rfl
  | ⟨3, _⟩ => rfl
/-- Its mean. -/
theorem mean_1 (j : S1x64x1x1.Idx) : val_main_v11 (F := Ideal) x0 j = (mean X 1 (j 1) : EReal) :=
  mean_read (val_main_v1 (F := Ideal) x0) (entry X 1) (entry_1 x0 X hx) j
/-- It less its mean. -/
theorem centred_1 (i : S32x64x64x64.Idx) : val_main_v23 (F := Ideal) x0 i = (centred X 1 (i 1) (i 0, i 2, i 3) : EReal) := by
  have e : val_main_v1 (F := Ideal) x0 i = (entry X 1 (i 1) (i 0, i 2, i 3) : EReal) :=
    (congrArg (val_main_v1 (F := Ideal) x0) (eq_ix4 i)).trans (entry_1 x0 X hx (i 1) (i 0, i 2, i 3))
  rw [val_main_v23_apply, val_main_v22_apply, mean_1 x0 X hx, e]
  exact (EReal.coe_sub _ _).symm

/-- Component j of the input. -/
theorem entry_2 (c : Fin 64) (n : Place) : val_main_v2 (F := Ideal) x0 (ix4 n.1 c n.2.1 n.2.2) = (entry X 2 c n : EReal) := by
  rw [val_main_v2_apply, hx]
  refine congrArg (fun i => (X i : EReal)) (funext fun a => Fin.ext ?_)
  match a with
  | ⟨0, _⟩ => rfl
  | ⟨1, _⟩ => show 128 + c.val = 64 * 2 + c.val; omega
  | ⟨2, _⟩ => rfl
  | ⟨3, _⟩ => rfl
/-- Its mean. -/
theorem mean_2 (j : S1x64x1x1.Idx) : val_main_v15 (F := Ideal) x0 j = (mean X 2 (j 1) : EReal) :=
  mean_read (val_main_v2 (F := Ideal) x0) (entry X 2) (entry_2 x0 X hx) j
/-- It less its mean. -/
theorem centred_2 (i : S32x64x64x64.Idx) : val_main_v25 (F := Ideal) x0 i = (centred X 2 (i 1) (i 0, i 2, i 3) : EReal) := by
  have e : val_main_v2 (F := Ideal) x0 i = (entry X 2 (i 1) (i 0, i 2, i 3) : EReal) :=
    (congrArg (val_main_v2 (F := Ideal) x0) (eq_ix4 i)).trans (entry_2 x0 X hx (i 1) (i 0, i 2, i 3))
  rw [val_main_v25_apply, val_main_v24_apply, mean_2 x0 X hx, e]
  exact (EReal.coe_sub _ _).symm

/-- Component k of the input. -/
theorem entry_3 (c : Fin 64) (n : Place) : val_main_v3 (F := Ideal) x0 (ix4 n.1 c n.2.1 n.2.2) = (entry X 3 c n : EReal) := by
  rw [val_main_v3_apply, hx]
  refine congrArg (fun i => (X i : EReal)) (funext fun a => Fin.ext ?_)
  match a with
  | ⟨0, _⟩ => rfl
  | ⟨1, _⟩ => show 192 + c.val = 64 * 3 + c.val; omega
  | ⟨2, _⟩ => rfl
  | ⟨3, _⟩ => rfl
/-- Its mean. -/
theorem mean_3 (j : S1x64x1x1.Idx) : val_main_v19 (F := Ideal) x0 j = (mean X 3 (j 1) : EReal) :=
  mean_read (val_main_v3 (F := Ideal) x0) (entry X 3) (entry_3 x0 X hx) j
/-- It less its mean. -/
theorem centred_3 (i : S32x64x64x64.Idx) : val_main_v27 (F := Ideal) x0 i = (centred X 3 (i 1) (i 0, i 2, i 3) : EReal) := by
  have e : val_main_v3 (F := Ideal) x0 i = (entry X 3 (i 1) (i 0, i 2, i 3) : EReal) :=
    (congrArg (val_main_v3 (F := Ideal) x0) (eq_ix4 i)).trans (entry_3 x0 X hx (i 1) (i 0, i 2, i 3))
  rw [val_main_v27_apply, val_main_v26_apply, mean_3 x0 X hx, e]
  exact (EReal.coe_sub _ _).symm

/-- The entry vr of the covariance matrix. -/
theorem cov_vr (j : S1x64x1x1.Idx) : val_main_v34 (F := Ideal) x0 j = ((covs X (j 1)).vr : EReal) := by
  have e : val_main_v32 (F := Ideal) x0 j = (((∑ n, centred X 0 (j 1) n * centred X 0 (j 1) n) / cnt : ℝ) : EReal) :=
    mean_read (val_main_v28 (F := Ideal) x0) (fun c n => centred X 0 c n * centred X 0 c n) (fun c n => by
      rw [val_main_v28_apply, centred_0 x0 X hx]; exact (EReal.coe_mul _ _).symm) j
  refine Eq.trans (congrArg₂ (fun a b : EReal => a + b) e ofBits_eps) ?_
  exact (EReal.coe_add _ _).symm

/-- The entry vi of the covariance matrix. -/
theorem cov_vi (j : S1x64x1x1.Idx) : val_main_v41 (F := Ideal) x0 j = ((covs X (j 1)).vi : EReal) := by
  have e : val_main_v39 (F := Ideal) x0 j = (((∑ n, centred X 1 (j 1) n * centred X 1 (j 1) n) / cnt : ℝ) : EReal) :=
    mean_read (val_main_v35 (F := Ideal) x0) (fun c n => centred X 1 c n * centred X 1 c n) (fun c n => by
      rw [val_main_v35_apply, centred_1 x0 X hx]; exact (EReal.coe_mul _ _).symm) j
  refine Eq.trans (congrArg₂ (fun a b : EReal => a + b) e ofBits_eps) ?_
  exact (EReal.coe_add _ _).symm

/-- The entry vj of the covariance matrix. -/
theorem cov_vj (j : S1x64x1x1.Idx) : val_main_v48 (F := Ideal) x0 j = ((covs X (j 1)).vj : EReal) := by
  have e : val_main_v46 (F := Ideal) x0 j = (((∑ n, centred X 2 (j 1) n * centred X 2 (j 1) n) / cnt : ℝ) : EReal) :=
    mean_read (val_main_v42 (F := Ideal) x0) (fun c n => centred X 2 c n * centred X 2 c n) (fun c n => by
      rw [val_main_v42_apply, centred_2 x0 X hx]; exact (EReal.coe_mul _ _).symm) j
  refine Eq.trans (congrArg₂ (fun a b : EReal => a + b) e ofBits_eps) ?_
  exact (EReal.coe_add _ _).symm

/-- The entry vk of the covariance matrix. -/
theorem cov_vk (j : S1x64x1x1.Idx) : val_main_v55 (F := Ideal) x0 j = ((covs X (j 1)).vk : EReal) := by
  have e : val_main_v53 (F := Ideal) x0 j = (((∑ n, centred X 3 (j 1) n * centred X 3 (j 1) n) / cnt : ℝ) : EReal) :=
    mean_read (val_main_v49 (F := Ideal) x0) (fun c n => centred X 3 c n * centred X 3 c n) (fun c n => by
      rw [val_main_v49_apply, centred_3 x0 X hx]; exact (EReal.coe_mul _ _).symm) j
  refine Eq.trans (congrArg₂ (fun a b : EReal => a + b) e ofBits_eps) ?_
  exact (EReal.coe_add _ _).symm

/-- The entry ri of the covariance matrix. -/
theorem cov_ri (j : S1x64x1x1.Idx) : val_main_v60 (F := Ideal) x0 j = ((covs X (j 1)).ri : EReal) := by
  have e : val_main_v60 (F := Ideal) x0 j = (((∑ n, centred X 0 (j 1) n * centred X 1 (j 1) n) / cnt : ℝ) : EReal) :=
    mean_read (val_main_v56 (F := Ideal) x0) (fun c n => centred X 0 c n * centred X 1 c n) (fun c n => by
      rw [val_main_v56_apply, centred_0 x0 X hx, centred_1 x0 X hx]; exact (EReal.coe_mul _ _).symm) j
  exact e

/-- The entry rj of the covariance matrix. -/
theorem cov_rj (j : S1x64x1x1.Idx) : val_main_v65 (F := Ideal) x0 j = ((covs X (j 1)).rj : EReal) := by
  have e : val_main_v65 (F := Ideal) x0 j = (((∑ n, centred X 0 (j 1) n * centred X 2 (j 1) n) / cnt : ℝ) : EReal) :=
    mean_read (val_main_v61 (F := Ideal) x0) (fun c n => centred X 0 c n * centred X 2 c n) (fun c n => by
      rw [val_main_v61_apply, centred_0 x0 X hx, centred_2 x0 X hx]; exact (EReal.coe_mul _ _).symm) j
  exact e

/-- The entry rk of the covariance matrix. -/
theorem cov_rk (j : S1x64x1x1.Idx) : val_main_v70 (F := Ideal) x0 j = ((covs X (j 1)).rk : EReal) := by
  have e : val_main_v70 (F := Ideal) x0 j = (((∑ n, centred X 0 (j 1) n * centred X 3 (j 1) n) / cnt : ℝ) : EReal) :=
    mean_read (val_main_v66 (F := Ideal) x0) (fun c n => centred X 0 c n * centred X 3 c n) (fun c n => by
      rw [val_main_v66_apply, centred_0 x0 X hx, centred_3 x0 X hx]; exact (EReal.coe_mul _ _).symm) j
  exact e

/-- The entry ij of the covariance matrix. -/
theorem cov_ij (j : S1x64x1x1.Idx) : val_main_v75 (F := Ideal) x0 j = ((covs X (j 1)).ij : EReal) := by
  have e : val_main_v75 (F := Ideal) x0 j = (((∑ n, centred X 1 (j 1) n * centred X 2 (j 1) n) / cnt : ℝ) : EReal) :=
    mean_read (val_main_v71 (F := Ideal) x0) (fun c n => centred X 1 c n * centred X 2 c n) (fun c n => by
      rw [val_main_v71_apply, centred_1 x0 X hx, centred_2 x0 X hx]; exact (EReal.coe_mul _ _).symm) j
  exact e

/-- The entry ik of the covariance matrix. -/
theorem cov_ik (j : S1x64x1x1.Idx) : val_main_v80 (F := Ideal) x0 j = ((covs X (j 1)).ik : EReal) := by
  have e : val_main_v80 (F := Ideal) x0 j = (((∑ n, centred X 1 (j 1) n * centred X 3 (j 1) n) / cnt : ℝ) : EReal) :=
    mean_read (val_main_v76 (F := Ideal) x0) (fun c n => centred X 1 c n * centred X 3 c n) (fun c n => by
      rw [val_main_v76_apply, centred_1 x0 X hx, centred_3 x0 X hx]; exact (EReal.coe_mul _ _).symm) j
  exact e

/-- The entry jk of the covariance matrix. -/
theorem cov_jk (j : S1x64x1x1.Idx) : val_main_v85 (F := Ideal) x0 j = ((covs X (j 1)).jk : EReal) := by
  have e : val_main_v85 (F := Ideal) x0 j = (((∑ n, centred X 2 (j 1) n * centred X 3 (j 1) n) / cnt : ℝ) : EReal) :=
    mean_read (val_main_v81 (F := Ideal) x0) (fun c n => centred X 2 c n * centred X 3 c n) (fun c n => by
      rw [val_main_v81_apply, centred_2 x0 X hx, centred_3 x0 X hx]; exact (EReal.coe_mul _ _).symm) j
  exact e

omit hx in
/-- The covariance matrix as the reference computes it, at a channel. -/
def mat (j : S1x64x1x1.Idx) : Mat EReal :=
  ⟨val_main_v34 (F := Ideal) x0 j, val_main_v41 (F := Ideal) x0 j, val_main_v48 (F := Ideal) x0 j, val_main_v55 (F := Ideal) x0 j, val_main_v60 (F := Ideal) x0 j, val_main_v65 (F := Ideal) x0 j, val_main_v70 (F := Ideal) x0 j, val_main_v75 (F := Ideal) x0 j, val_main_v80 (F := Ideal) x0 j, val_main_v85 (F := Ideal) x0 j⟩

/-- It is the matrix of covariances. -/
theorem mat_eq (j : S1x64x1x1.Idx) : mat x0 j = (covs X (j 1)).map (↑) := by
  simp only [mat, Mat.map, cov_vr x0 X hx, cov_vi x0 X hx, cov_vj x0 X hx, cov_vk x0 X hx, cov_ri x0 X hx, cov_rj x0 X hx, cov_rk x0 X hx, cov_ij x0 X hx, cov_ik x0 X hx, cov_jk x0 X hx]

omit hx

/-- The weight rr. -/
theorem weight_RR (j : S1x64x1x1.Idx) : val_main_v86 (F := Ideal) x0 j = xRR (mat x0 j) := rfl
/-- The weight ri. -/
theorem weight_RI (j : S1x64x1x1.Idx) : val_main_v87 (F := Ideal) x0 j = xRI (mat x0 j) := rfl
/-- The weight ii. -/
theorem weight_II (j : S1x64x1x1.Idx) : val_main_v90 (F := Ideal) x0 j = xII (mat x0 j) := rfl
/-- The weight rj. -/
theorem weight_RJ (j : S1x64x1x1.Idx) : val_main_v91 (F := Ideal) x0 j = xRJ (mat x0 j) := rfl
/-- The weight ij. -/
theorem weight_IJ (j : S1x64x1x1.Idx) : val_main_v94 (F := Ideal) x0 j = xIJ (mat x0 j) := rfl
/-- The weight jj. -/
theorem weight_JJ (j : S1x64x1x1.Idx) : val_main_v99 (F := Ideal) x0 j = xJJ (mat x0 j) := rfl
/-- The weight rk. -/
theorem weight_RK (j : S1x64x1x1.Idx) : val_main_v100 (F := Ideal) x0 j = xRK (mat x0 j) := rfl
/-- The weight ik. -/
theorem weight_IK (j : S1x64x1x1.Idx) : val_main_v103 (F := Ideal) x0 j = xIK (mat x0 j) := rfl
/-- The weight jk. -/
theorem weight_JK (j : S1x64x1x1.Idx) : val_main_v108 (F := Ideal) x0 j = xJK (mat x0 j) := rfl
/-- The weight kk. -/
theorem weight_KK (j : S1x64x1x1.Idx) : val_main_v115 (F := Ideal) x0 j = xKK (mat x0 j) := rfl

/-- A weight spread over the component is read at the channel. -/
abbrev chanIdx (i : S32x64x64x64.Idx) : S1x64x1x1.Idx := idx_main_v116 i

/-- The mix that gives output component r. -/
theorem mix_R (x1 x5 x6 x7 : (⟨S64, .f32⟩ : BufTy).Contents (Elt Ideal)) (i : S32x64x64x64.Idx) (β : EReal) :
    val_main_v162 (F := Ideal) x0 x1 x5 x6 x7 i + β
      = centredForm (mat x0 (chanIdx i)) (val_main_v21 (F := Ideal) x0 i) (val_main_v23 (F := Ideal) x0 i) (val_main_v25 (F := Ideal) x0 i)
        (val_main_v27 (F := Ideal) x0 i) (x1 (ix1 (i 1))) (x5 (ix1 (i 1))) (x6 (ix1 (i 1))) (x7 (ix1 (i 1))) β := by
  have e : ∀ x : (⟨S64, .f32⟩ : BufTy).Contents (Elt Ideal), x (idx_main_v142 (chanIdx i)) = x (ix1 (i 1)) := fun x =>
    congrArg x (funext fun a => Fin.ext (by
      match a with
      | ⟨0, _⟩ => show ((0 * 64 + (i 1).val) * 1 + 0) * 1 + 0 = (i 1).val; omega))
  unfold centredForm
  rw [← e x1, ← e x5, ← e x6, ← e x7]
  simp only [val_main_v162_apply, val_main_v159_apply, val_main_v156_apply, val_main_v153_apply, val_main_v152_apply, val_main_v142_apply, val_main_v126_apply, val_main_v123_apply, val_main_v120_apply, val_main_v117_apply, val_main_v116_apply, val_main_v119_apply, val_main_v118_apply, val_main_v122_apply, val_main_v121_apply, val_main_v125_apply, val_main_v124_apply, val_main_v155_apply, val_main_v154_apply, val_main_v146_apply, val_main_v134_apply, val_main_v131_apply, val_main_v128_apply, val_main_v127_apply, val_main_v130_apply, val_main_v129_apply, val_main_v133_apply, val_main_v132_apply, val_main_v158_apply, val_main_v157_apply, val_main_v147_apply, val_main_v139_apply, val_main_v136_apply, val_main_v135_apply, val_main_v138_apply, val_main_v137_apply, val_main_v161_apply, val_main_v160_apply, val_main_v148_apply, val_main_v141_apply, val_main_v140_apply, weight_RR, weight_RI, weight_II, weight_RJ, weight_IJ, weight_JJ, weight_RK, weight_IK, weight_JK, weight_KK]
  rfl

/-- The mix that gives output component i. -/
theorem mix_I (x2 x5 x8 x9 : (⟨S64, .f32⟩ : BufTy).Contents (Elt Ideal)) (i : S32x64x64x64.Idx) (β : EReal) :
    val_main_v173 (F := Ideal) x0 x2 x5 x8 x9 i + β
      = centredForm (mat x0 (chanIdx i)) (val_main_v21 (F := Ideal) x0 i) (val_main_v23 (F := Ideal) x0 i) (val_main_v25 (F := Ideal) x0 i)
        (val_main_v27 (F := Ideal) x0 i) (x5 (ix1 (i 1))) (x2 (ix1 (i 1))) (x8 (ix1 (i 1))) (x9 (ix1 (i 1))) β := by
  have e : ∀ x : (⟨S64, .f32⟩ : BufTy).Contents (Elt Ideal), x (idx_main_v142 (chanIdx i)) = x (ix1 (i 1)) := fun x =>
    congrArg x (funext fun a => Fin.ext (by
      match a with
      | ⟨0, _⟩ => show ((0 * 64 + (i 1).val) * 1 + 0) * 1 + 0 = (i 1).val; omega))
  unfold centredForm
  rw [← e x5, ← e x2, ← e x8, ← e x9]
  simp only [val_main_v173_apply, val_main_v170_apply, val_main_v167_apply, val_main_v164_apply, val_main_v163_apply, val_main_v146_apply, val_main_v126_apply, val_main_v123_apply, val_main_v120_apply, val_main_v117_apply, val_main_v116_apply, val_main_v119_apply, val_main_v118_apply, val_main_v122_apply, val_main_v121_apply, val_main_v125_apply, val_main_v124_apply, val_main_v166_apply, val_main_v165_apply, val_main_v143_apply, val_main_v134_apply, val_main_v131_apply, val_main_v128_apply, val_main_v127_apply, val_main_v130_apply, val_main_v129_apply, val_main_v133_apply, val_main_v132_apply, val_main_v169_apply, val_main_v168_apply, val_main_v149_apply, val_main_v139_apply, val_main_v136_apply, val_main_v135_apply, val_main_v138_apply, val_main_v137_apply, val_main_v172_apply, val_main_v171_apply, val_main_v150_apply, val_main_v141_apply, val_main_v140_apply, weight_RR, weight_RI, weight_II, weight_RJ, weight_IJ, weight_JJ, weight_RK, weight_IK, weight_JK, weight_KK]
  rfl

/-- The mix that gives output component j. -/
theorem mix_J (x3 x6 x8 x10 : (⟨S64, .f32⟩ : BufTy).Contents (Elt Ideal)) (i : S32x64x64x64.Idx) (β : EReal) :
    val_main_v184 (F := Ideal) x0 x3 x6 x8 x10 i + β
      = centredForm (mat x0 (chanIdx i)) (val_main_v21 (F := Ideal) x0 i) (val_main_v23 (F := Ideal) x0 i) (val_main_v25 (F := Ideal) x0 i)
        (val_main_v27 (F := Ideal) x0 i) (x6 (ix1 (i 1))) (x8 (ix1 (i 1))) (x3 (ix1 (i 1))) (x10 (ix1 (i 1))) β := by
  have e : ∀ x : (⟨S64, .f32⟩ : BufTy).Contents (Elt Ideal), x (idx_main_v142 (chanIdx i)) = x (ix1 (i 1)) := fun x =>
    congrArg x (funext fun a => Fin.ext (by
      match a with
      | ⟨0, _⟩ => show ((0 * 64 + (i 1).val) * 1 + 0) * 1 + 0 = (i 1).val; omega))
  unfold centredForm
  rw [← e x6, ← e x8, ← e x3, ← e x10]
  simp only [val_main_v184_apply, val_main_v181_apply, val_main_v178_apply, val_main_v175_apply, val_main_v174_apply, val_main_v147_apply, val_main_v126_apply, val_main_v123_apply, val_main_v120_apply, val_main_v117_apply, val_main_v116_apply, val_main_v119_apply, val_main_v118_apply, val_main_v122_apply, val_main_v121_apply, val_main_v125_apply, val_main_v124_apply, val_main_v177_apply, val_main_v176_apply, val_main_v149_apply, val_main_v134_apply, val_main_v131_apply, val_main_v128_apply, val_main_v127_apply, val_main_v130_apply, val_main_v129_apply, val_main_v133_apply, val_main_v132_apply, val_main_v180_apply, val_main_v179_apply, val_main_v144_apply, val_main_v139_apply, val_main_v136_apply, val_main_v135_apply, val_main_v138_apply, val_main_v137_apply, val_main_v183_apply, val_main_v182_apply, val_main_v151_apply, val_main_v141_apply, val_main_v140_apply, weight_RR, weight_RI, weight_II, weight_RJ, weight_IJ, weight_JJ, weight_RK, weight_IK, weight_JK, weight_KK]
  rfl

/-- The mix that gives output component k. -/
theorem mix_K (x4 x7 x9 x10 : (⟨S64, .f32⟩ : BufTy).Contents (Elt Ideal)) (i : S32x64x64x64.Idx) (β : EReal) :
    val_main_v195 (F := Ideal) x0 x4 x7 x9 x10 i + β
      = centredForm (mat x0 (chanIdx i)) (val_main_v21 (F := Ideal) x0 i) (val_main_v23 (F := Ideal) x0 i) (val_main_v25 (F := Ideal) x0 i)
        (val_main_v27 (F := Ideal) x0 i) (x7 (ix1 (i 1))) (x9 (ix1 (i 1))) (x10 (ix1 (i 1))) (x4 (ix1 (i 1))) β := by
  have e : ∀ x : (⟨S64, .f32⟩ : BufTy).Contents (Elt Ideal), x (idx_main_v142 (chanIdx i)) = x (ix1 (i 1)) := fun x =>
    congrArg x (funext fun a => Fin.ext (by
      match a with
      | ⟨0, _⟩ => show ((0 * 64 + (i 1).val) * 1 + 0) * 1 + 0 = (i 1).val; omega))
  unfold centredForm
  rw [← e x7, ← e x9, ← e x10, ← e x4]
  simp only [val_main_v195_apply, val_main_v192_apply, val_main_v189_apply, val_main_v186_apply, val_main_v185_apply, val_main_v148_apply, val_main_v126_apply, val_main_v123_apply, val_main_v120_apply, val_main_v117_apply, val_main_v116_apply, val_main_v119_apply, val_main_v118_apply, val_main_v122_apply, val_main_v121_apply, val_main_v125_apply, val_main_v124_apply, val_main_v188_apply, val_main_v187_apply, val_main_v150_apply, val_main_v134_apply, val_main_v131_apply, val_main_v128_apply, val_main_v127_apply, val_main_v130_apply, val_main_v129_apply, val_main_v133_apply, val_main_v132_apply, val_main_v191_apply, val_main_v190_apply, val_main_v151_apply, val_main_v139_apply, val_main_v136_apply, val_main_v135_apply, val_main_v138_apply, val_main_v137_apply, val_main_v194_apply, val_main_v193_apply, val_main_v145_apply, val_main_v141_apply, val_main_v140_apply, weight_RR, weight_RI, weight_II, weight_RJ, weight_IJ, weight_JJ, weight_RK, weight_IK, weight_JK, weight_KK]
  rfl

/-- The four components laid end to end along the channels, at a channel of one of them. -/
theorem quarters_read (y0 y1 y2 y3 : S32x64x64x64.Idx → EReal) (h) (n : Fin 32) (q : Fin 4) (c u v : Fin 64) :
    concatenate S32x256x64x64 1 [⟨S32x64x64x64, y0⟩, ⟨S32x64x64x64, y1⟩, ⟨S32x64x64x64, y2⟩, ⟨S32x64x64x64, y3⟩] h
      (ix4 n (chan q c) u v) = ![y0, y1, y2, y3] q (ix4 n c u v) := by
  have hc := c.isLt
  refine concatenate_ofFn_apply (s₁ := S32x64x64x64) 1 ![y0, y1, y2, y3] h rfl 64 rfl _ q ?_ (ix4 n c u v) ?_ ?_
  · show (64 * q.val + c.val) / 64 = q.val; omega
  · show c.val = (64 * q.val + c.val) % 64; omega
  · intro b hb
    match b with
    | ⟨0, _⟩ => rfl
    | ⟨1, _⟩ => exact absurd rfl hb
    | ⟨2, _⟩ => rfl
    | ⟨3, _⟩ => rfl

/-- The offset spread over the result. -/
theorem offset_read (x11 : (⟨S256, .f32⟩ : BufTy).Contents (Elt Ideal)) (n : Fin 32) (a : Fin 256) (u v : Fin 64) :
    val_main_v198 (F := Ideal) x11 (ix4 n a u v) = x11 (ix1 a) := by
  rw [val_main_v198_apply, val_main_v197_apply]
  refine congrArg x11 (funext fun b => Fin.ext ?_)
  match b with
  | ⟨0, _⟩ => show ((0 * 256 + a.val) * 1 + 0) * 1 + 0 = a.val; omega

include hx in
/-- THE REFERENCE'S RESULT, at a place of a channel: the centred form. -/
theorem result (x1 x2 x3 x4 x5 x6 x7 x8 x9 x10 : (⟨S64, .f32⟩ : BufTy).Contents (Elt Ideal)) (x11 : (⟨S256, .f32⟩ : BufTy).Contents (Elt Ideal))
    (q : Fin 4) (c : Fin 64) (n : Place) :
    val_main_v199 (F := Ideal) x0 x1 x2 x3 x4 x5 x6 x7 x8 x9 x10 x11 (ix4 n.1 (chan q c) n.2.1 n.2.2)
      = outAt X c n (table x1 x2 x3 x4 x5 x6 x7 x8 x9 x10 c q 0) (table x1 x2 x3 x4 x5 x6 x7 x8 x9 x10 c q 1)
        (table x1 x2 x3 x4 x5 x6 x7 x8 x9 x10 c q 2) (table x1 x2 x3 x4 x5 x6 x7 x8 x9 x10 c q 3) (x11 (ix1 (chan q c))) := by
  rw [val_main_v199_apply, offset_read]
  unfold val_main_v196
  rw [quarters_read]
  have e0 := centred_0 x0 X hx (ix4 n.1 c n.2.1 n.2.2)
  have e1 := centred_1 x0 X hx (ix4 n.1 c n.2.1 n.2.2)
  have e2 := centred_2 x0 X hx (ix4 n.1 c n.2.1 n.2.2)
  have e3 := centred_3 x0 X hx (ix4 n.1 c n.2.1 n.2.2)
  have em := mat_eq x0 X hx (chanIdx (ix4 n.1 c n.2.1 n.2.2))
  fin_cases q
  · refine (mix_R x0 x1 x5 x6 x7 (ix4 n.1 c n.2.1 n.2.2) _).trans ?_
    rw [e0, e1, e2, e3, em]; rfl
  · refine (mix_I x0 x2 x5 x8 x9 (ix4 n.1 c n.2.1 n.2.2) _).trans ?_
    rw [e0, e1, e2, e3, em]; rfl
  · refine (mix_J x0 x3 x6 x8 x10 (ix4 n.1 c n.2.1 n.2.2) _).trans ?_
    rw [e0, e1, e2, e3, em]; rfl
  · refine (mix_K x0 x4 x7 x9 x10 (ix4 n.1 c n.2.1 n.2.2) _).trans ?_
    rw [e0, e1, e2, e3, em]; rfl

end Input

end Cert.ReferenceIdeal.Own

end
-- ==== Proof.Finite.lean ====
/- What the precondition says: the input and the ten arrays of gammas hold real numbers. -/
module

public import proofs.«01_k».proof.Pre_finite
public import proofs.«01_k».proof.Proof.Gen.Pre_finite
public import proofs.«01_k».proof.Proof.Common

@[expose] public section

noncomputable section

namespace Cert.Pre_finite.Own

open Cert.Pre_finite.Gen Cert.Own
open Idealize.ShloMosaic

/-- The test of one value: its magnitude is below infinity. -/
def isReal (v : EReal) : BitVec 1 :=
  FloatOps.cmpf .olt (FloatOps.hostAbsf (v : Ideal .f32)) (FloatOps.ofBits (F := Ideal) .f32 0x7F800000#32)

/-- A value that passes the test is a real number. -/
theorem of_isReal (v : EReal) (h : isReal v = 1#1) : ∃ r : ℝ, v = (r : EReal) := by
  change Ideal.cmp .olt (max v (-v)) (Ideal.ofBits .f32 0x7F800000#32) = 1#1 at h
  rw [ofBits_inf] at h
  induction v using EReal.rec with
  | bot => exact absurd h (by simp [Ideal.cmp])
  | coe r => exact ⟨r, rfl⟩
  | top => exact absurd h (by simp [Ideal.cmp])

section
variable (x0 : (⟨S32x256x64x64, .f32⟩ : BufTy).Contents (Elt Ideal)) (x1 x2 x3 x4 x5 x6 x7 x8 x9 x10 : (⟨S64, .f32⟩ : BufTy).Contents (Elt Ideal))
  (x11 : (⟨S256, .f32⟩ : BufTy).Contents (Elt Ideal))

/-- The precondition's bit at an index is the test of the input there and of every gamma at the last coordinate. -/
theorem fn_read (n : Fin 32) (a : Fin 256) (r w : Fin 64) : fn (F := Ideal) x0 x1 x2 x3 x4 x5 x6 x7 x8 x9 x10 x11 (ix4 n a r w)
    = IntOp.andi (IntOp.andi (IntOp.andi (IntOp.andi (IntOp.andi (IntOp.andi (IntOp.andi (IntOp.andi (IntOp.andi (IntOp.andi
        (isReal (x0 (ix4 n a r w))) (isReal (x1 (ix1 w)))) (isReal (x2 (ix1 w)))) (isReal (x3 (ix1 w)))) (isReal (x4 (ix1 w))))
        (isReal (x5 (ix1 w)))) (isReal (x6 (ix1 w)))) (isReal (x7 (ix1 w)))) (isReal (x8 (ix1 w)))) (isReal (x9 (ix1 w))))
        (isReal (x10 (ix1 w))) := by
  have hb : ∀ v : IVec S64 1, broadcastInDim S32x256x64x64 ![0, 1, 2, 3] bcast_S1x1x1x64_S32x256x64x64_0_1_2_3
      (broadcastInDim S1x1x1x64 ![3] bcast_S64_S1x1x1x64_3 v) (ix4 n a r w) = v (ix1 w) := fun v => by
    pointwise []
  have hg : ∀ v : (⟨S64, .f32⟩ : BufTy).Contents (Elt Ideal), broadcastInDim S32x256x64x64 ![0, 1, 2, 3] bcast_S1x1x1x64_S32x256x64x64_0_1_2_3
      (broadcastInDim S1x1x1x64 ![3] bcast_S64_S1x1x1x64_3
        (cmpf (F := Ideal) .olt (Host.absf v) (broadcastInDim S64 ![] bcast_S_S64 (constant S_ .f32 0x7F800000#32)))) (ix4 n a r w)
      = isReal (v (ix1 w)) := fun v => (hb _).trans rfl
  unfold fn fn_part1 fn_part2 fn_part3
  refine congrArg₂ IntOp.andi ?_ (hg x10)
  refine congrArg₂ IntOp.andi ?_ (hg x9)
  refine congrArg₂ IntOp.andi ?_ (hg x8)
  refine congrArg₂ IntOp.andi ?_ (hg x7)
  refine congrArg₂ IntOp.andi ?_ (hg x6)
  refine congrArg₂ IntOp.andi ?_ (hg x5)
  refine congrArg₂ IntOp.andi ?_ (hg x4)
  refine congrArg₂ IntOp.andi ?_ (hg x3)
  refine congrArg₂ IntOp.andi ?_ (hg x2)
  refine congrArg₂ IntOp.andi ?_ (hg x1)
  rfl

/-- A conjunction of two bits that is one has both bits one. -/
theorem both (p q : BitVec 1) (h : IntOp.andi p q = 1#1) : p = 1#1 ∧ q = 1#1 := by
  revert p q; decide

variable (hpre : fn (F := Ideal) x0 x1 x2 x3 x4 x5 x6 x7 x8 x9 x10 x11 = fun _ => 1#1)

include hpre in
/-- Under the precondition the input is an array of real numbers. -/
theorem input_real : ∃ X : SX.Idx → ℝ, ∀ i, x0 i = (X i : EReal) := by
  refine Classical.skolem.mp fun i => of_isReal _ ?_
  obtain ⟨n, a, r, w, rfl⟩ : ∃ (n : Fin 32) (a : Fin 256) (r w : Fin 64), i = ix4 n a r w := ⟨_, _, _, _, eq_ix4 i⟩
  have h := (fn_read x0 x1 x2 x3 x4 x5 x6 x7 x8 x9 x10 x11 n a r w).symm.trans (congrFun hpre _)
  exact (both _ _ (both _ _ (both _ _ (both _ _ (both _ _ (both _ _ (both _ _ (both _ _ (both _ _ (both _ _ h).1).1).1).1).1).1).1).1).1).1

include hpre in
/-- Under the precondition every entry of the table of gammas is a real number. -/
theorem gammas_real (ch : Fin 64) (q p : Fin 4) : ∃ r : ℝ, table x1 x2 x3 x4 x5 x6 x7 x8 x9 x10 ch q p = (r : EReal) := by
  have h := congrFun hpre (ix4 (0 : Fin 32) (0 : Fin 256) (0 : Fin 64) ch)
  rw [fn_read] at h
  obtain ⟨h, h10⟩ := both _ _ h
  obtain ⟨h, h9⟩ := both _ _ h
  obtain ⟨h, h8⟩ := both _ _ h
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h, h1⟩ := both _ _ h
  fin_cases q <;> fin_cases p <;> first
    | exact of_isReal _ h1 | exact of_isReal _ h2 | exact of_isReal _ h3 | exact of_isReal _ h4 | exact of_isReal _ h5
    | exact of_isReal _ h6 | exact of_isReal _ h7 | exact of_isReal _ h8 | exact of_isReal _ h9 | exact of_isReal _ h10

end

end Cert.Pre_finite.Own

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Run
public import proofs.«01_k».proof.Proof.KernelRun
public import proofs.«01_k».proof.Proof.Final
public import proofs.«01_k».proof.Proof.Reference
public import proofs.«01_k».proof.Proof.Finite
public import Idealize.ShloMosaic.Adequacy
public import Idealize.ShloMosaic.Init

@[expose] public section

noncomputable section

namespace Cert.Proof

open Idealize.ShloMosaic Idealize.SL.Sem

/-- The printed kernel runs to the end, leaves its arguments unchanged and its semaphores at zero. -/
theorem frame_kernel : quiescent_Kernel := fun m ρ _ =>
  (θ_run Cert.Kernel.defs _ _).mono (fun _ h => ⟨fun c => (h.1 c).2, h.2⟩) (Cert.Kernel.Own.run m ρ)

/-- The idealised kernel runs to the end, leaves its arguments unchanged and its semaphores at zero. -/
theorem frame_kernel_ideal : quiescent_KernelIdeal := fun m ρ _ =>
  (θ_run Cert.KernelIdeal.defs _ _).mono (fun _ h => ⟨fun c => (h.1 c).2, h.2⟩) (Cert.KernelIdeal.Own.run m ρ)

/-- The reference runs to the end, leaves its arguments unchanged and its semaphores at zero. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Under the precondition, from the same arguments, the reference's value is the array the kernel leaves. -/
theorem same_result (m : (ℓ : Loc Cert.KernelIdeal.nD Cert.KernelIdeal.τ Cert.KernelIdeal.sig) → Buf (Elt Ideal) ℓ)
    (ρ : Dev Cert.KernelIdeal.nD → PrngReg) (h : Pre_KernelIdeal_finite m) (c : Dev Cert.KernelIdeal.nD) :
    Cert.ReferenceIdeal.Read.val_main_v199 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
      = Cert.KernelIdeal.Own.W4 m ρ c (Proc.devRef .tc Cert.KernelIdeal.main_v0) := by
  obtain ⟨X, hx⟩ := Cert.Pre_finite.Own.input_real _ _ _ _ _ _ _ _ _ _ _ _ (h c)
  have hg := Cert.Pre_finite.Own.gammas_real _ _ _ _ _ _ _ _ _ _ _ _ (h c)
  funext j
  obtain ⟨n, a, r, w, rfl⟩ : ∃ (n : Fin 32) (a : Fin 256) (r w : Fin 64), j = ix4 n a r w := ⟨_, _, _, _, eq_ix4 j⟩
  obtain ⟨q, ch, rfl⟩ := Cert.Own.chan_surj a
  exact (Cert.ReferenceIdeal.Own.result _ X hx _ _ _ _ _ _ _ _ _ _ _ q ch (n, r, w)).trans
    (Cert.KernelIdeal.Own.result_real m ρ c X hx hg q ch (n, r, w)).symm

/-- Over exact arithmetic, from the same arguments under the precondition, kernel and reference leave the same array. -/
theorem same : algebraic_KernelIdeal_ReferenceIdeal_pre_finite := by
  intro m g m' g' hpre hargs
  refine ⟨fun c => Cert.KernelIdeal.Own.W4 m g c (Proc.devRef .tc Cert.KernelIdeal.main_v0),
    (θ_run Cert.KernelIdeal.defs _ _).mono (fun _ h => h.1) (Cert.KernelIdeal.Own.run m g),
    (θ_run Cert.ReferenceIdeal.defs _ _).mono ?_ (Cert.ReferenceIdeal.Value.run m' g')⟩
  intro r h c
  refine ⟨?_, (h c).2⟩
  refine ((h c).1.trans (Cert.ReferenceIdeal.Read.val_main_v199_eq (F := Ideal) (StableHlo.launchContents m' c))).trans ?_
  obtain ⟨a0, a1, a2, a3, a4, a5, a6, a7, a8, a9, a10, a11⟩ := hargs c
  refine Eq.trans ?_ (same_result m g hpre c)
  rw [← a0, ← a1, ← a2, ← a3, ← a4, ← a5, ← a6, ← a7, ← a8, ← a9, ← a10, ← a11]

/-- The certificate's claim. -/
theorem claim : Cert.Claim :=
  ⟨Cert.Kernel.Gen.facts, Cert.KernelIdeal.Gen.facts, Cert.ReferenceIdeal.Gen.facts, Cert.Pre_finite.Gen.facts,
    frame_kernel, frame_kernel_ideal, fun m ρ _ => frame_kernel_ideal m ρ trivial, frame_reference,
    fun m ρ _ => frame_reference m ρ trivial, trivial, same⟩

end Cert.Proof

end
